-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_positions [hPre_finite_positions : Cert.Pre_finite_positions.Facts] (m : (ℓ : Loc Cert.KernelIdeal.nD Cert.KernelIdeal.τ Cert.KernelIdeal.sig) → Buf (Elt Ideal) ℓ) : Prop :=
  ∀ c : Dev Cert.KernelIdeal.nD,
    (Cert.Pre_finite_positions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_positions [hPre_finite_positions : Cert.Pre_finite_positions.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_positions.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_positions [hKernelIdeal : Cert.KernelIdeal.Facts] [hPre_finite_positions : Cert.Pre_finite_positions.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_positions m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_positions [hReferenceIdeal : Cert.ReferenceIdeal.Facts] [hPre_finite_positions : Cert.Pre_finite_positions.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_positions m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "step" .f32 0x3CAAAAAB#32 ((1 / 48 : ℝ) : EReal)
  ∧ IdealRules.named_const.Statement Cert.KernelIdeal.κ "two_thirds" .f32 0x3F2AAAAB#32 ((2 / 3 : ℝ) : EReal)
  ∧ IdealRules.named_const.Statement Cert.KernelIdeal.κ "log_eps" .f32 0xC1B834F1#32 ((Real.log (14411519 / 144115188075855872) : ℝ) : EReal)

def algebraic_KernelIdeal_ReferenceIdeal_pre_finite_positions [hKernelIdeal : Cert.KernelIdeal.Facts] [hReferenceIdeal : Cert.ReferenceIdeal.Facts] [hPre_finite_positions : Cert.Pre_finite_positions.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_positions m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_positions : Cert.Pre_finite_positions.Facts),
    quiescent_Kernel (hKernel := hKernel)
    ∧ quiescent_KernelIdeal (hKernelIdeal := hKernelIdeal)
    ∧ quiescent_KernelIdeal_pre_finite_positions (hKernelIdeal := hKernelIdeal) (hPre_finite_positions := hPre_finite_positions)
    ∧ quiescent_ReferenceIdeal (hReferenceIdeal := hReferenceIdeal)
    ∧ quiescent_ReferenceIdeal_pre_finite_positions (hReferenceIdeal := hReferenceIdeal) (hPre_finite_positions := hPre_finite_positions)
    ∧ preserves_Kernel_KernelIdeal
    ∧ algebraic_KernelIdeal_ReferenceIdeal_pre_finite_positions (hKernelIdeal := hKernelIdeal) (hReferenceIdeal := hReferenceIdeal) (hPre_finite_positions := hPre_finite_positions)
-- ==== Pre_finite_positions.lean ====
abbrev S4096x6 : Shape := ⟨2, ![4096, 6]⟩
abbrev S3x128 : Shape := ⟨2, ![3, 128]⟩
abbrev S128 : Shape := ⟨1, ![128]⟩
abbrev S128x1 : Shape := ⟨2, ![128, 1]⟩
abbrev S1 : Shape := ⟨1, ![1]⟩
abbrev S128x3 : Shape := ⟨2, ![128, 3]⟩
abbrev S3 : Shape := ⟨1, ![3]⟩
abbrev S_ : Shape := ⟨0, ![]⟩

class Facts : Prop where
  bcast_S_S4096x6 : S_.BroadcastsInDim S4096x6 (![] : Fin 0 → Fin S4096x6.rank)
  reducesTo_S4096x6_S_d0_1 : S4096x6.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_

variable [Facts]

def fn {F : FTy → Type} [FloatOps F] (main_arg0 : FVec F S4096x6 .f32) (main_arg1 : FVec F S3x128 .f32) (main_arg2 : FVec F S128 .f32) (main_arg3 : FVec F S128x1 .f32) (main_arg4 : FVec F S1 .f32) (main_arg5 : FVec F S128x3 .f32) (main_arg6 : FVec F S3 .f32) : IVec S_ 1 :=
  let main_v0 : FVec F S4096x6 .f32 := Host.absf main_arg0
  let main_cst : FVec F S_ .f32 := constant S_ .f32 0x7F800000#32
  let main_v1 : FVec F S4096x6 .f32 := broadcastInDim S4096x6 ![] bcast_S_S4096x6 main_cst
  let main_v2 : IVec S4096x6 1 := cmpf .olt main_v0 main_v1
  let main_c : IVec S_ 1 := constantI S_ 1 1#1
  let main_v3 : IVec S_ 1 := (fun x v => Host.reduce IntOp.andi x v reducesTo_S4096x6_S_d0_1 h_S_) main_v2 main_c
  let main_v4 : FVec F S3x128 .f32 := Host.absf main_arg1
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  main_v8
-- ==== Kernel.lean ====
abbrev S4096x6 : Shape := ⟨2, ![4096, 6]⟩
abbrev S3x128 : Shape := ⟨2, ![3, 128]⟩
abbrev S128 : Shape := ⟨1, ![128]⟩
abbrev S128x1 : Shape := ⟨2, ![128, 1]⟩
abbrev S1 : Shape := ⟨1, ![1]⟩
abbrev S128x3 : Shape := ⟨2, ![128, 3]⟩
abbrev S3 : Shape := ⟨1, ![3]⟩
abbrev S128x4 : Shape := ⟨2, ![128, 4]⟩
abbrev S4x128 : Shape := ⟨2, ![4, 128]⟩
abbrev S1x128 : Shape := ⟨2, ![1, 128]⟩
abbrev S1x1 : Shape := ⟨2, ![1, 1]⟩
abbrev S1x3 : Shape := ⟨2, ![1, 3]⟩
abbrev S4096x3 : Shape := ⟨2, ![4096, 3]⟩
abbrev S4096x1 : Shape := ⟨2, ![4096, 1]⟩
abbrev S512x6 : Shape := ⟨2, ![512, 6]⟩
abbrev S512x3 : Shape := ⟨2, ![512, 3]⟩
abbrev S512x1 : Shape := ⟨2, ![512, 1]⟩
abbrev S3x256 : Shape := ⟨2, ![3, 256]⟩
abbrev S6x256 : Shape := ⟨2, ![6, 256]⟩
abbrev S1x256 : Shape := ⟨2, ![1, 256]⟩
abbrev S192x192 : Shape := ⟨2, ![192, 192]⟩
abbrev S1x192 : Shape := ⟨2, ![1, 192]⟩
abbrev S256x6 : Shape := ⟨2, ![256, 6]⟩
abbrev S256x256 : Shape := ⟨2, ![256, 256]⟩
abbrev S256x2x128 : Shape := ⟨3, ![256, 2, 128]⟩
abbrev S1x1x192 : Shape := ⟨3, ![1, 1, 192]⟩
abbrev S1x2x192 : Shape := ⟨3, ![1, 2, 192]⟩
abbrev S256x2x192 : Shape := ⟨3, ![256, 2, 192]⟩
abbrev S256x128x192 : Shape := ⟨3, ![256, 128, 192]⟩
abbrev S1x4x128 : Shape := ⟨3, ![1, 4, 128]⟩
abbrev S256x4x128 : Shape := ⟨3, ![256, 4, 128]⟩
abbrev S256x4x192 : Shape := ⟨3, ![256, 4, 192]⟩
abbrev S256x1x192 : Shape := ⟨3, ![256, 1, 192]⟩
abbrev S256x192 : Shape := ⟨2, ![256, 192]⟩
abbrev S256 : Shape := ⟨1, ![256]⟩
abbrev S256x1 : Shape := ⟨2, ![256, 1]⟩
abbrev S256x3 : Shape := ⟨2, ![256, 3]⟩
abbrev S4096 : Shape := ⟨1, ![4096]⟩

abbrev nBuf : Space → Nat
  | .hbm => 17
  | .vmem => 13
  | .smem => 0
  | _ => 0

abbrev bufTy : (tb : Table) → Fin (tcTables nBuf tb) → BufTy
  | .hbm, ⟨0, _⟩ => ⟨S4096x6, .f32⟩
  | .hbm, ⟨1, _⟩ => ⟨S3x128, .f32⟩
  | .hbm, ⟨2, _⟩ => ⟨S128, .f32⟩
  | .hbm, ⟨3, _⟩ => ⟨S128x1, .f32⟩
  | .hbm, ⟨4, _⟩ => ⟨S1, .f32⟩
  | .hbm, ⟨5, _⟩ => ⟨S128x3, .f32⟩
  | .hbm, ⟨6, _⟩ => ⟨S3, .f32⟩
  | .hbm, ⟨7, _⟩ => ⟨S128x4, .f32⟩
  | .hbm, ⟨8, _⟩ => ⟨S4x128, .f32⟩
  | .hbm, ⟨9, _⟩ => ⟨S1x128, .f32⟩
  | .hbm, ⟨10, _⟩ => ⟨S1x1, .f32⟩
  | .hbm, ⟨11, _⟩ => ⟨S1x3, .f32⟩
  | .hbm, ⟨12, _⟩ => ⟨S4096x3, .f32⟩
  | .hbm, ⟨13, _⟩ => ⟨S4096x1, .f32⟩
  | .hbm, ⟨14, _⟩ => ⟨S4096x1, .f32⟩
  | .hbm, ⟨15, _⟩ => ⟨S4096, .f32⟩
  | .hbm, ⟨16, _⟩ => ⟨S4096, .f32⟩
  | .local _ .vmem, ⟨0, _⟩ => ⟨S512x6, .f32⟩
  | .local _ .vmem, ⟨1, _⟩ => ⟨S512x6, .f32⟩
  | .local _ .vmem, ⟨2, _⟩ => ⟨S3x128, .f32⟩
  | .local _ .vmem, ⟨3, _⟩ => ⟨S1x128, .f32⟩
  | .local _ .vmem, ⟨4, _⟩ => ⟨S4x128, .f32⟩
  | .local _ .vmem, ⟨5, _⟩ => ⟨S1x1, .f32⟩
  | .local _ .vmem, ⟨6, _⟩ => ⟨S1x3, .f32⟩
  | .local _ .vmem, ⟨7, _⟩ => ⟨S512x3, .f32⟩
  | .local _ .vmem, ⟨8, _⟩ => ⟨S512x3, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | _, _ => ⟨S4096x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "log_eps" => some ((Real.log (14411519 / 144115188075855872) : ℝ) : EReal)
  | "step" => some ((1 / 48 : ℝ) : EReal)
  | "two_thirds" => some ((2 / 3 : ℝ) : EReal)
  | _ => none
-- ==== ReferenceIdeal.lean ====
abbrev S4096x6 : Shape := ⟨2, ![4096, 6]⟩
abbrev S3x128 : Shape := ⟨2, ![3, 128]⟩
abbrev S128 : Shape := ⟨1, ![128]⟩
abbrev S128x1 : Shape := ⟨2, ![128, 1]⟩
abbrev S1 : Shape := ⟨1, ![1]⟩
abbrev S128x3 : Shape := ⟨2, ![128, 3]⟩
abbrev S3 : Shape := ⟨1, ![3]⟩
abbrev S4096x3 : Shape := ⟨2, ![4096, 3]⟩
abbrev S_ : Shape := ⟨0, ![]⟩
abbrev S192 : Shape := ⟨1, ![192]⟩
abbrev S193 : Shape := ⟨1, ![193]⟩
abbrev S4096x192 : Shape := ⟨2, ![4096, 192]⟩
abbrev S786432 : Shape := ⟨1, ![786432]⟩
abbrev S4096 : Shape := ⟨1, ![4096]⟩
abbrev S786432x1 : Shape := ⟨2, ![786432, 1]⟩
abbrev S1x1 : Shape := ⟨2, ![1, 1]⟩
abbrev S786432x3 : Shape := ⟨2, ![786432, 3]⟩
abbrev S1x3 : Shape := ⟨2, ![1, 3]⟩
abbrev S786432x128 : Shape := ⟨2, ![786432, 128]⟩
abbrev S1x128 : Shape := ⟨2, ![1, 128]⟩
abbrev S4096x1 : Shape := ⟨2, ![4096, 1]⟩
abbrev S4096x191 : Shape := ⟨2, ![4096, 191]⟩

abbrev nBuf : Space → Nat
  | .hbm => 198
  | .vmem => 0
  | .smem => 0
  | _ => 0

abbrev hbmTy0_0 (i : Nat) : BufTy := match i % 128 with
  | 0 => ⟨S4096x6, .f32⟩
  | 1 => ⟨S3x128, .f32⟩
  | 2 => ⟨S128, .f32⟩
  | 3 => ⟨S128x1, .f32⟩
  | 4 => ⟨S1, .f32⟩
  | 5 => ⟨S128x3, .f32⟩
  | 6 => ⟨S3, .f32⟩
  | 7 => ⟨S3, .f32⟩
  | 8 => ⟨S3, .f32⟩
  | 9 => ⟨S4096x3, .f32⟩
  | 10 => ⟨S4096x3, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S192, .f32⟩
  | 19 => ⟨S_, .f32⟩
  | 20 => ⟨S192, .f32⟩
  | 21 => ⟨S192, .f32⟩
  | 22 => ⟨S1, .f32⟩
  | 23 => ⟨S_, .f32⟩
  | 24 => ⟨S192, .f32⟩
  | 25 => ⟨S192, .f32⟩
  | 26 => ⟨S192, .f32⟩
  | 27 => ⟨S192, .f32⟩
  | 28 => ⟨S1, .f32⟩
  | 29 => ⟨S192, .f32⟩
  | 30 => ⟨S192, .f32⟩
  | 31 => ⟨S192, .f32⟩
  | 32 => ⟨S1, .f32⟩
  | 33 => ⟨S193, .f32⟩
  | 34 => ⟨S192, .f32⟩
  | 35 => ⟨S4096x192, .f32⟩
  | 36 => ⟨S786432, .f32⟩
  | 37 => ⟨S192, .f32⟩
  | 38 => ⟨S4096x192, .f32⟩
  | 39 => ⟨S786432, .f32⟩
  | 40 => ⟨S4096, .i32⟩
  | 41 => ⟨S4096x192, .i32⟩
  | 42 => ⟨S786432, .i32⟩
  | 43 => ⟨S_, .i32⟩
  | 44 => ⟨S786432, .i32⟩
  | 45 => ⟨S786432, .i1⟩
  | 46 => ⟨S_, .i32⟩
  | 47 => ⟨S786432, .i32⟩
  | 48 => ⟨S786432, .i32⟩
  | 49 => ⟨S786432, .i32⟩
  | 50 => ⟨S786432x1, .i32⟩
  | 51 => ⟨S1, .i32⟩
  | 52 => ⟨S_, .i32⟩
  | 53 => ⟨S786432x1, .i32⟩
  | 54 => ⟨S786432x1, .i1⟩
  | 55 => ⟨S1x1, .i32⟩
  | 56 => ⟨S786432x1, .i32⟩
  | 57 => ⟨S786432x1, .i1⟩
  | 58 => ⟨S786432x1, .i1⟩
  | 59 => ⟨S_, .i1⟩
  | 60 => ⟨S786432, .i1⟩
  | 61 => ⟨S786432x3, .f32⟩
  | 62 => ⟨S786432x3, .i1⟩
  | 63 => ⟨S_, .f32⟩
  | 64 => ⟨S786432x3, .f32⟩
  | 65 => ⟨S786432x3, .f32⟩
  | 66 => ⟨S_, .i32⟩
  | 67 => ⟨S786432, .i32⟩
  | 68 => ⟨S786432, .i1⟩
  | 69 => ⟨S_, .i32⟩
  | 70 => ⟨S786432, .i32⟩
  | 71 => ⟨S786432, .i32⟩
  | 72 => ⟨S786432, .i32⟩
  | 73 => ⟨S786432x1, .i32⟩
  | 74 => ⟨S1, .i32⟩
  | 75 => ⟨S_, .i32⟩
  | 76 => ⟨S786432x1, .i32⟩
  | 77 => ⟨S786432x1, .i1⟩
  | 78 => ⟨S1x1, .i32⟩
  | 79 => ⟨S786432x1, .i32⟩
  | 80 => ⟨S786432x1, .i1⟩
  | 81 => ⟨S786432x1, .i1⟩
  | 82 => ⟨S_, .i1⟩
  | 83 => ⟨S786432, .i1⟩
  | 84 => ⟨S786432x3, .f32⟩
  | 85 => ⟨S786432x3, .i1⟩
  | 86 => ⟨S_, .f32⟩
  | 87 => ⟨S786432x3, .f32⟩
  | 88 => ⟨S786432x3, .f32⟩
  | 89 => ⟨S786432, .f32⟩
  | 90 => ⟨S786432x1, .f32⟩
  | 91 => ⟨S_, .f32⟩
  | 92 => ⟨S786432x1, .f32⟩
  | 93 => ⟨S786432x1, .f32⟩
  | 94 => ⟨S786432x3, .f32⟩
  | 95 => ⟨S786432x3, .f32⟩
  | 96 => ⟨S786432x3, .f32⟩
  | 97 => ⟨S1x3, .f32⟩
  | 98 => ⟨S786432x3, .f32⟩
  | 99 => ⟨S786432x3, .f32⟩
  | 100 => ⟨S3, .f32⟩
  | 101 => ⟨S1x3, .f32⟩
  | 102 => ⟨S786432x3, .f32⟩
  | 103 => ⟨S786432x3, .f32⟩
  | 104 => ⟨S_, .f32⟩
  | 105 => ⟨S786432x3, .f32⟩
  | 106 => ⟨S786432x3, .f32⟩
  | 107 => ⟨S_, .f32⟩
  | 108 => ⟨S786432x3, .f32⟩
  | 109 => ⟨S786432x3, .f32⟩
  | 110 => ⟨S786432x128, .f32⟩
  | 111 => ⟨S1x128, .f32⟩
  | 112 => ⟨S786432x128, .f32⟩
  | 113 => ⟨S786432x128, .f32⟩
  | 114 => ⟨S_, .f32⟩
  | 115 => ⟨S786432x128, .f32⟩
  | 116 => ⟨S786432x128, .f32⟩
  | 117 => ⟨S786432x1, .f32⟩
  | 118 => ⟨S1x1, .f32⟩
  | 119 => ⟨S786432x1, .f32⟩
  | 120 => ⟨S786432x1, .f32⟩
  | 121 => ⟨S_, .f32⟩
  | 122 => ⟨S786432x1, .f32⟩
  | 123 => ⟨S786432x1, .f32⟩
  | 124 => ⟨S786432x1, .f32⟩
  | 125 => ⟨S786432x1, .f32⟩
  | 126 => ⟨S786432x1, .i1⟩
  | 127 => ⟨S786432x1, .f32⟩
  | _ => ⟨S4096x6, .f32⟩

abbrev hbmTy0_1 (i : Nat) : BufTy := match i % 128 with
  | 0 => ⟨S786432x1, .f32⟩
  | 1 => ⟨S786432x1, .f32⟩
  | 2 => ⟨S786432x1, .f32⟩
  | 3 => ⟨S786432x1, .f32⟩
  | 4 => ⟨S786432x1, .f32⟩
  | 5 => ⟨S786432x1, .f32⟩
  | 6 => ⟨S786432x1, .f32⟩
  | 7 => ⟨S786432, .f32⟩
  | 8 => ⟨S786432x3, .f32⟩
  | 9 => ⟨S1x3, .f32⟩
  | 10 => ⟨S786432x3, .f32⟩
  | 11 => ⟨S786432x3, .f32⟩
  | 12 => ⟨S786432x3, .f32⟩
  | 13 => ⟨S786432x3, .f32⟩
  | 14 => ⟨S_, .f32⟩
  | 15 => ⟨S786432x3, .f32⟩
  | 16 => ⟨S786432x3, .f32⟩
  | 17 => ⟨S_, .f32⟩
  | 18 => ⟨S786432x3, .f32⟩
  | 19 => ⟨S786432x3, .f32⟩
  | 20 => ⟨S786432, .f32⟩
  | 21 => ⟨S786432, .f32⟩
  | 22 => ⟨S786432, .f32⟩
  | 23 => ⟨S786432, .f32⟩
  | 24 => ⟨S_, .f32⟩
  | 25 => ⟨S786432, .f32⟩
  | 26 => ⟨S786432, .f32⟩
  | 27 => ⟨S_, .f32⟩
  | 28 => ⟨S786432, .f32⟩
  | 29 => ⟨S786432, .f32⟩
  | 30 => ⟨S_, .f32⟩
  | 31 => ⟨S_, .f32⟩
  | 32 => ⟨S_, .f32⟩
  | 33 => ⟨S786432, .f32⟩
  | 34 => ⟨S786432, .f32⟩
  | 35 => ⟨S_, .f32⟩
  | 36 => ⟨S786432, .f32⟩
  | 37 => ⟨S786432, .f32⟩
  | 38 => ⟨S786432, .f32⟩
  | 39 => ⟨S4096x192, .f32⟩
  | 40 => ⟨S_, .f32⟩
  | 41 => ⟨S4096x1, .f32⟩
  | 42 => ⟨S_, .f32⟩
  | 43 => ⟨S_, .f32⟩
  | 44 => ⟨S4096x192, .f32⟩
  | 45 => ⟨S4096x191, .f32⟩
  | 46 => ⟨S4096x192, .f32⟩
  | 47 => ⟨S4096x192, .f32⟩
  | 48 => ⟨S786432, .f32⟩
  | 49 => ⟨S786432, .f32⟩
  | 50 => ⟨S786432x1, .f32⟩
  | 51 => ⟨S786432x3, .f32⟩
  | 52 => ⟨S786432x3, .f32⟩
  | 53 => ⟨S_, .f32⟩
  | 54 => ⟨S4096x3, .f32⟩
  | 55 => ⟨S786432x1, .i32⟩
  | 56 => ⟨S4096x3, .f32⟩
  | 57 => ⟨S_, .f32⟩
  | 58 => ⟨S4096, .f32⟩
  | 59 => ⟨S786432x1, .i32⟩
  | 60 => ⟨S4096, .f32⟩
  | 61 => ⟨S786432, .f32⟩
  | 62 => ⟨S786432, .f32⟩
  | 63 => ⟨S_, .f32⟩
  | 64 => ⟨S786432, .f32⟩
  | 65 => ⟨S786432, .f32⟩
  | 66 => ⟨S_, .f32⟩
  | 67 => ⟨S4096, .f32⟩
  | 68 => ⟨S786432x1, .i32⟩
  | 69 => ⟨S4096, .f32⟩
  | _ => ⟨S4096x6, .f32⟩

abbrev hbmTy (i : Nat) : BufTy := match i / 128 with
  | 0 => hbmTy0_0 i
  | 1 => hbmTy0_1 i
  | _ => ⟨S4096x6, .f32⟩

abbrev bufTy : (tb : Table) → Fin (tcTables nBuf tb) → BufTy
  | .hbm, ⟨i, _⟩ => hbmTy i
  | _, _ => ⟨S4096x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_cst_1 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_cst : Ref sig .tc := ⟨.hbm, 16, rfl⟩
abbrev main_call0_v3 : Ref sig .tc := ⟨.hbm, 17, rfl⟩
abbrev main_call0_v4 : Ref sig .tc := ⟨.hbm, 18, rfl⟩
abbrev main_call0_cst_0 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v12 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v13 : Ref sig .tc := ⟨.hbm, 88, rfl⟩
abbrev main_v14 : Ref sig .tc := ⟨.hbm, 89, rfl⟩
abbrev main_v15 : Ref sig .tc := ⟨.hbm, 90, rfl⟩
abbrev main_cst_3 : Ref sig .tc := ⟨.hbm, 91, rfl⟩
abbrev main_v16 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_cst_4 : Ref sig .tc := ⟨.hbm, 104, rfl⟩
abbrev main_v28 : Ref sig .tc := ⟨.hbm, 105, rfl⟩
abbrev main_v29 : Ref sig .tc := ⟨.hbm, 106, rfl⟩
abbrev main_cst_5 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_v34 : Ref sig .tc := ⟨.hbm, 112, rfl⟩
abbrev main_v35 : Ref sig .tc := ⟨.hbm, 113, rfl⟩
abbrev main_cst_6 : Ref sig .tc := ⟨.hbm, 114, rfl⟩
abbrev main_v36 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_call3_cst : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_v5 : Ref sig .tc := ⟨.hbm, 127, rfl⟩
abbrev main_call3_v6 : Ref sig .tc := ⟨.hbm, 128, rfl⟩
abbrev main_call3_v7 : Ref sig .tc := ⟨.hbm, 129, rfl⟩
abbrev main_call3_v8 : Ref sig .tc := ⟨.hbm, 130, rfl⟩
abbrev main_call3_v9 : Ref sig .tc := ⟨.hbm, 131, rfl⟩
abbrev main_call3_v10 : Ref sig .tc := ⟨.hbm, 132, rfl⟩
abbrev main_call3_v11 : Ref sig .tc := ⟨.hbm, 133, rfl⟩
abbrev main_v42 : Ref sig .tc := ⟨.hbm, 134, rfl⟩
abbrev main_v43 : Ref sig .tc := ⟨.hbm, 135, rfl⟩
abbrev main_v44 : Ref sig .tc := ⟨.hbm, 136, rfl⟩
abbrev main_v45 : Ref sig .tc := ⟨.hbm, 137, rfl⟩
abbrev main_v46 : Ref sig .tc := ⟨.hbm, 138, rfl⟩
abbrev main_v47 : Ref sig .tc := ⟨.hbm, 139, rfl⟩
abbrev main_v48 : Ref sig .tc := ⟨.hbm, 140, rfl⟩
abbrev main_v49 : Ref sig .tc := ⟨.hbm, 141, rfl⟩
abbrev main_cst_7 : Ref sig .tc := ⟨.hbm, 142, rfl⟩
abbrev main_v50 : Ref sig .tc := ⟨.hbm, 143, rfl⟩
abbrev main_v51 : Ref sig .tc := ⟨.hbm, 144, rfl⟩
abbrev main_cst_8 : Ref sig .tc := ⟨.hbm, 145, rfl⟩
abbrev main_v52 : Ref sig .tc := ⟨.hbm, 146, rfl⟩
abbrev main_v53 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_v57 : Ref sig .tc := ⟨.hbm, 151, rfl⟩
abbrev main_cst_9 : Ref sig .tc := ⟨.hbm, 152, rfl⟩
abbrev main_v58 : Ref sig .tc := ⟨.hbm, 153, rfl⟩
abbrev main_v59 : Ref sig .tc := ⟨.hbm, 154, rfl⟩
abbrev main_cst_10 : Ref sig .tc := ⟨.hbm, 155, rfl⟩
abbrev main_v60 : Ref sig .tc := ⟨.hbm, 156, rfl⟩
abbrev main_v61 : Ref sig .tc := ⟨.hbm, 157, rfl⟩
abbrev main_cst_11 : Ref sig .tc := ⟨.hbm, 158, rfl⟩
abbrev main_cst_12 : Ref sig .tc := ⟨.hbm, 159, rfl⟩
abbrev main_call4_v0 : Ref sig .tc := ⟨.hbm, 160, rfl⟩
abbrev main_call4_v1 : Ref sig .tc := ⟨.hbm, 161, rfl⟩
abbrev main_call4_v2 : Ref sig .tc := ⟨.hbm, 162, rfl⟩
abbrev main_call4_v3 : Ref sig .tc := ⟨.hbm, 163, rfl⟩
abbrev main_call4_v4 : Ref sig .tc := ⟨.hbm, 164, rfl⟩
abbrev main_v62 : Ref sig .tc := ⟨.hbm, 165, rfl⟩
abbrev main_v63 : Ref sig .tc := ⟨.hbm, 166, rfl⟩
abbrev main_v64 : Ref sig .tc := ⟨.hbm, 167, rfl⟩
abbrev main_cst_13 : Ref sig .tc := ⟨.hbm, 168, rfl⟩
abbrev main_v65 : Ref sig .tc := ⟨.hbm, 169, rfl⟩
abbrev main_call5_call0_cst : Ref sig .tc := ⟨.hbm, 170, rfl⟩
abbrev main_call5_call0_v0 : Ref sig .tc := ⟨.hbm, 171, rfl⟩
abbrev main_v66 : Ref sig .tc := ⟨.hbm, 172, rfl⟩
abbrev main_v67 : Ref sig .tc := ⟨.hbm, 173, rfl⟩
abbrev main_v68 : Ref sig .tc := ⟨.hbm, 174, rfl⟩
abbrev main_v69 : Ref sig .tc := ⟨.hbm, 175, rfl⟩
abbrev main_v70 : Ref sig .tc := ⟨.hbm, 176, rfl⟩
abbrev main_v71 : Ref sig .tc := ⟨.hbm, 177, rfl⟩
abbrev main_v72 : Ref sig .tc := ⟨.hbm, 178, rfl⟩
abbrev main_v73 : Ref sig .tc := ⟨.hbm, 179, rfl⟩
abbrev main_v74 : Ref sig .tc := ⟨.hbm, 180, rfl⟩
abbrev main_cst_14 : Ref sig .tc := ⟨.hbm, 181, rfl⟩
abbrev main_v75 : Ref sig .tc := ⟨.hbm, 182, rfl⟩
abbrev main_v76 : Ref sig .tc := ⟨.hbm, 183, rfl⟩
abbrev main_v77 : Ref sig .tc := ⟨.hbm, 184, rfl⟩
abbrev main_cst_15 : Ref sig .tc := ⟨.hbm, 185, rfl⟩
abbrev main_v78 : Ref sig .tc := ⟨.hbm, 186, rfl⟩
abbrev main_v79 : Ref sig .tc := ⟨.hbm, 187, rfl⟩
abbrev main_v80 : Ref sig .tc := ⟨.hbm, 188, rfl⟩
abbrev main_v81 : Ref sig .tc := ⟨.hbm, 189, rfl⟩
abbrev main_v82 : Ref sig .tc := ⟨.hbm, 190, rfl⟩
abbrev main_cst_16 : Ref sig .tc := ⟨.hbm, 191, rfl⟩
abbrev main_v83 : Ref sig .tc := ⟨.hbm, 192, rfl⟩
abbrev main_v84 : Ref sig .tc := ⟨.hbm, 193, rfl⟩
abbrev main_cst_17 : Ref sig .tc := ⟨.hbm, 194, rfl⟩
abbrev main_v85 : Ref sig .tc := ⟨.hbm, 195, rfl⟩
abbrev main_v86 : Ref sig .tc := ⟨.hbm, 196, rfl⟩
abbrev main_v87 : Ref sig .tc := ⟨.hbm, 197, rfl⟩

abbrev nD : Nat := 1
abbrev τ : Topo := Topo.v7x

variable {F : FTy → Type} [FloatOps F]
-- ==== Proof.Scalars.lean ====
/-
  The mathematics of one ray, over the extended reals, with no program in it: what a sample's density and colour
  logits are, the weight of a sample along the ray, and the equations between the two ways of computing them.
-/
module

public import Idealize.ShloMosaic.PureOps.Ideal.Laws
public import Idealize.ShloMosaic.Lib.IdealHost
public import Idealize.ShloMosaic.Lib.Pointwise

@[expose] public section

noncomputable section

namespace Cert.Ray

open Idealize.ShloMosaic

/-- The midpoint of sample interval `s`: the intervals start at 2 and are 1/48 wide. -/
def mid (s : ℕ) : ℝ := 2 + ((s : ℝ) + 1 / 2) * (1 / 48)

/-- The smallest logarithm of a transmittance: that of the float the reference writes as 1e-10. -/
def logEps : ℝ := Real.log (14411519 / 144115188075855872)

/-- The hidden unit's input as the kernel forms it: an affine function of the midpoint. -/
def preK (o d w : Fin 3 → EReal) (b : EReal) (s : ℕ) : EReal :=
  ((∑ k, (o k * ((2 / 3 : ℝ) : EReal)) * w k) + b) + (∑ k, (d k * ((2 / 3 : ℝ) : EReal)) * w k) * ((mid s : ℝ) : EReal)

/-- The hidden unit's input as the reference forms it: the normalized sample position through the first layer. -/
def preR (o d w : Fin 3 → EReal) (b : EReal) (s : ℕ) : EReal :=
  (∑ k, ((((o k + d k * ((mid s : ℝ) : EReal)) - ((-(3 / 2) : ℝ) : EReal)) * ((1 / 3 : ℝ) : EReal)) * ((2 : ℝ) : EReal) - 1) * w k) + b

/-- A real cast of a sum over a finite type. -/
theorem coe_sum {n : ℕ} (f : Fin n → ℝ) : ((∑ k, f k : ℝ) : EReal) = ∑ k, ((f k : ℝ) : EReal) := by
  induction n with
  | zero => simp
  | succ n ih => rw [Fin.sum_univ_succ, Fin.sum_univ_succ, EReal.coe_add, ih]

/-- At finite positions and weights the two forms of a hidden unit's input are equal, whatever the bias. -/
theorem preK_eq_preR (o d w : Fin 3 → ℝ) (b : EReal) (s : ℕ) :
    preK (fun k => o k) (fun k => d k) (fun k => w k) b s = preR (fun k => o k) (fun k => d k) (fun k => w k) b s := by
  unfold preK preR
  have h1 : (∑ k, ((o k : EReal) * ((2 / 3 : ℝ) : EReal)) * (w k : EReal)) = ((∑ k, o k * (2 / 3) * w k : ℝ) : EReal) := by
    rw [coe_sum]; simp only [EReal.coe_mul]
  have h2 : (∑ k, ((d k : EReal) * ((2 / 3 : ℝ) : EReal)) * (w k : EReal)) = ((∑ k, d k * (2 / 3) * w k : ℝ) : EReal) := by
    rw [coe_sum]; simp only [EReal.coe_mul]
  have h3 : (∑ k, (((((o k : EReal) + (d k : EReal) * ((mid s : ℝ) : EReal)) - ((-(3 / 2) : ℝ) : EReal)) * ((1 / 3 : ℝ) : EReal)) * ((2 : ℝ) : EReal) - 1) * (w k : EReal))
      = ((∑ k, ((((o k + d k * mid s) - (-(3 / 2))) * (1 / 3)) * 2 - 1) * w k : ℝ) : EReal) := by
    rw [coe_sum]; simp only [EReal.coe_mul, EReal.coe_add, EReal.coe_sub, EReal.coe_one]
  rw [h1, h2, h3, add_right_comm, ← EReal.coe_mul, ← EReal.coe_add]
  congr 2
  rw [Finset.sum_mul, ← Finset.sum_add_distrib]
  refine Finset.sum_congr rfl fun k _ => ?_
  ring

/-- `log (1 + exp z)`, in the form both programs compute. -/
def softplus (z : EReal) : EReal := max z 0 + Ideal.log1p (Ideal.exp (-(max z (-z))))

/-- The optical depth of one sample interval at density logit `z`. -/
def depth (z : EReal) : EReal := softplus z * ((1 / 48 : ℝ) : EReal)

/-- The opacity of one sample interval. -/
def alpha (z : EReal) : EReal := 1 - Ideal.exp (-depth z)

/-- The logarithm of one interval's transmittance, bounded below. -/
def logT (z : EReal) : EReal := max (-depth z) (logEps : EReal)

/-- The weight of sample `s`: its opacity times the transmittance of the samples before it. -/
def weight (z : Fin 192 → EReal) (s : Fin 192) : EReal :=
  alpha (z s) * Ideal.exp (∑ k, if k.val < s.val then logT (z k) else 0)

/-- The logit a linear read-out of the rectified hidden layer gives at sample `s`. -/
def logit (pre : Fin 128 → ℕ → EReal) (w : Fin 128 → EReal) (b : EReal) (s : ℕ) : EReal :=
  (∑ j, max (pre j s) 0 * w j) + b

/-- One colour channel of a ray: the weighted sum of the samples' colours. -/
def colour (pre : Fin 128 → ℕ → EReal) (ws : Fin 128 → EReal) (bs : EReal) (wc : Fin 128 → EReal) (bc : EReal) : EReal :=
  ∑ s : Fin 192, weight (fun k => logit pre ws bs k.val) s * Ideal.logistic (logit pre wc bc s.val)

/-- The opacity of a ray: the sum of the samples' weights. -/
def opacity (pre : Fin 128 → ℕ → EReal) (ws : Fin 128 → EReal) (bs : EReal) : EReal :=
  ∑ s : Fin 192, weight (fun k => logit pre ws bs k.val) s

/-- The distance a ray travels: the weighted sum of the samples' midpoints. -/
def distance (pre : Fin 128 → ℕ → EReal) (ws : Fin 128 → EReal) (bs : EReal) : EReal :=
  ∑ s : Fin 192, weight (fun k => logit pre ws bs k.val) s * ((mid s.val : ℝ) : EReal)

/-- `log1p (exp y)` is nonnegative. -/
theorem log1p_exp_nonneg (y : EReal) : 0 ≤ Ideal.log1p (Ideal.exp y) := by
  induction y with
  | bot =>
    rw [Ideal.exp_bot, Ideal.log1p, add_zero, ← EReal.coe_one, Ideal.log_coe, if_neg (by norm_num), Real.log_one]
    exact le_refl _
  | top =>
    rw [Ideal.exp_top, Ideal.log1p, EReal.add_top_of_ne_bot (show (1 : EReal) ≠ ⊥ from EReal.coe_ne_bot 1), Ideal.log_top]
    exact le_top
  | coe r =>
    have hp := Real.exp_pos r
    rw [Ideal.exp_coe, Ideal.log1p, ← EReal.coe_one, ← EReal.coe_add, Ideal.log_coe, if_neg (by linarith)]
    exact_mod_cast Real.log_nonneg (by linarith)

/-- The density is nonnegative. -/
theorem softplus_nonneg (z : EReal) : 0 ≤ softplus z :=
  add_nonneg (le_max_right _ _) (log1p_exp_nonneg _)

/-- The optical depth is nonnegative. -/
theorem depth_nonneg (z : EReal) : 0 ≤ depth z :=
  mul_nonneg (softplus_nonneg z) (by exact_mod_cast (by norm_num : (0 : ℝ) ≤ 1 / 48))

/-- The cast of the larger of two reals. -/
theorem coe_larger (a b : ℝ) : ((max a b : ℝ) : EReal) = max (a : EReal) (b : EReal) :=
  EReal.coe_strictMono.monotone.map_max

/-- The cast of the smaller of two reals. -/
theorem coe_smaller (a b : ℝ) : ((min a b : ℝ) : EReal) = min (a : EReal) (b : EReal) :=
  EReal.coe_strictMono.monotone.map_min

/-- The clipped transmittance's logarithm is the negated optical depth, bounded below. -/
theorem log_clip (x : EReal) (hx : 0 ≤ x) :
    Ideal.log (min 1 (max ((14411519 / 144115188075855872 : ℝ) : EReal) (1 - (1 - Ideal.exp (-x)))))
      = max (-x) (logEps : EReal) := by
  have hε : (0 : ℝ) < 14411519 / 144115188075855872 := by norm_num
  have hε1 : (14411519 / 144115188075855872 : ℝ) ≤ 1 := by norm_num
  induction x with
  | bot => exact absurd hx (by simp)
  | top =>
    rw [EReal.neg_top, Ideal.exp_bot, sub_zero, ← EReal.coe_one, ← EReal.coe_sub, sub_self, ← coe_larger, ← coe_smaller,
      max_eq_left hε.le, min_eq_right hε1, Ideal.log_coe, if_neg (by linarith), max_eq_right bot_le]
    rfl
  | coe r =>
    have hr : 0 ≤ r := by exact_mod_cast hx
    have he : Real.exp (-r) ≤ 1 := by rw [Real.exp_le_one_iff]; linarith
    have hp := Real.exp_pos (-r)
    rw [← EReal.coe_neg, Ideal.exp_coe, ← EReal.coe_one, ← EReal.coe_sub, ← EReal.coe_sub, ← coe_larger, ← coe_smaller,
      ← coe_larger, sub_sub_cancel, min_eq_right (max_le hε1 he), Ideal.log_coe,
      if_neg (not_le.mpr (lt_max_of_lt_left hε))]
    congr 1
    unfold logEps
    rcases le_total (14411519 / 144115188075855872 : ℝ) (Real.exp (-r)) with h | h
    · rw [max_eq_right h, Real.log_exp, max_eq_left]
      rw [← Real.log_exp (-r)]
      exact Real.log_le_log hε h
    · rw [max_eq_left h, max_eq_right]
      rw [← Real.log_exp (-r)]
      exact Real.log_le_log hp h

/-- Half a weighted sum of an interval's ends is the weight times the midpoint. -/
theorem half_ends (w : EReal) (s : ℕ) :
    Ideal.div (w * (((2 + (s : ℝ) / 48 : ℝ) : EReal) + ((2 + ((s : ℝ) + 1) / 48 : ℝ) : EReal))) ((2 : ℝ) : EReal)
      = w * ((mid s : ℝ) : EReal) := by
  rw [Ideal.div_coe (by norm_num), mul_assoc, ← EReal.coe_add, ← EReal.coe_mul]
  congr 2
  unfold mid
  ring

/-- The hidden units' inputs of ray `n`, as the kernel forms them, from the rays, the first layer and its bias. -/
def hiddenK (x0 : (⟨2, ![4096, 6]⟩ : Shape).Idx → EReal) (x1 : (⟨2, ![3, 128]⟩ : Shape).Idx → EReal) (x2 : (⟨1, ![128]⟩ : Shape).Idx → EReal)
    (n : Fin 4096) (j : Fin 128) (s : ℕ) : EReal :=
  preK (fun k => x0 (ix2 n (⟨k.val, by omega⟩ : Fin 6))) (fun k => x0 (ix2 n (⟨3 + k.val, by omega⟩ : Fin 6))) (fun k => x1 (ix2 k j)) (x2 (ix1 j)) s

/-- The colours of every ray, from @main's arguments. -/
def colours (x0 : (⟨2, ![4096, 6]⟩ : Shape).Idx → EReal) (x1 : (⟨2, ![3, 128]⟩ : Shape).Idx → EReal) (x2 : (⟨1, ![128]⟩ : Shape).Idx → EReal)
    (x3 : (⟨2, ![128, 1]⟩ : Shape).Idx → EReal) (x4 : (⟨1, ![1]⟩ : Shape).Idx → EReal) (x5 : (⟨2, ![128, 3]⟩ : Shape).Idx → EReal)
    (x6 : (⟨1, ![3]⟩ : Shape).Idx → EReal) (n : Fin 4096) (q : Fin 3) : EReal :=
  colour (hiddenK x0 x1 x2 n) (fun j => x3 (ix2 j (0 : Fin 1))) (x4 (ix1 (0 : Fin 1))) (fun j => x5 (ix2 j q)) (x6 (ix1 q))

/-- The opacities of every ray, from @main's arguments. -/
def opacities (x0 : (⟨2, ![4096, 6]⟩ : Shape).Idx → EReal) (x1 : (⟨2, ![3, 128]⟩ : Shape).Idx → EReal) (x2 : (⟨1, ![128]⟩ : Shape).Idx → EReal)
    (x3 : (⟨2, ![128, 1]⟩ : Shape).Idx → EReal) (x4 : (⟨1, ![1]⟩ : Shape).Idx → EReal) (n : Fin 4096) : EReal :=
  opacity (hiddenK x0 x1 x2 n) (fun j => x3 (ix2 j (0 : Fin 1))) (x4 (ix1 (0 : Fin 1)))

/-- The distances of every ray, from @main's arguments. -/
def distances (x0 : (⟨2, ![4096, 6]⟩ : Shape).Idx → EReal) (x1 : (⟨2, ![3, 128]⟩ : Shape).Idx → EReal) (x2 : (⟨1, ![128]⟩ : Shape).Idx → EReal)
    (x3 : (⟨2, ![128, 1]⟩ : Shape).Idx → EReal) (x4 : (⟨1, ![1]⟩ : Shape).Idx → EReal) (n : Fin 4096) : EReal :=
  distance (hiddenK x0 x1 x2 n) (fun j => x3 (ix2 j (0 : Fin 1))) (x4 (ix1 (0 : Fin 1)))

end Cert.Ray

end
-- ==== Proof.KerBlock.lean ====
/-
  What one block of the kernel computes, read at an index: each payload of the body as a formula over the loaded blocks.
-/
module

public import proofs.«01_k».proof.Proof.Gen.KernelIdeal.Skeleton
public import proofs.«01_k».proof.Proof.Scalars
public import Idealize.ShloMosaic.Lib.Pointwise
public import Idealize.ShloMosaic.Lib.WordCmp

@[expose] public section

set_option maxRecDepth 16384

noncomputable section

namespace Cert.KernelIdeal.Block

open Cert.KernelIdeal Cert.KernelIdeal.Gen Idealize.ShloMosaic Cert.Ray

/-- The named constant 1/48. -/
theorem step_eq : Named.named (F := Ideal) κ "step" (φ := .f32) 1017817771#32 = ((1 / 48 : ℝ) : EReal) := rfl

/-- The named constant 2/3. -/
theorem thirds_eq : Named.named (F := Ideal) κ "two_thirds" (φ := .f32) 1059760811#32 = ((2 / 3 : ℝ) : EReal) := rfl

/-- The named constant log 1e-10. -/
theorem logEps_eq : Named.named (F := Ideal) κ "log_eps" (φ := .f32) 3250074865#32 = (logEps : EReal) := rfl

/-- The pattern of 2. -/
theorem two_eq : Ideal.ofBits .f32 1073741824#32 = ((2 : ℝ) : EReal) := by
  simp [Ideal.ofBits, Ideal.ieee, -EReal.coe_mul]; norm_num

/-- The pattern of one half. -/
theorem half_eq : Ideal.ofBits .f32 1056964608#32 = ((1 / 2 : ℝ) : EReal) := by
  simp [Ideal.ofBits, Ideal.ieee, -EReal.coe_mul]; norm_num

/-- The vector of sample midpoints. -/
theorem pay12_apply (s : Fin 192) : k0_pay12 (F := Ideal) (ix2 (0 : Fin 1) s) = ((mid s.val : ℝ) : EReal) := by
  pointwise [k0_pay12]
  have h : FloatOps.sitofp (F := Ideal) FTy.f32 (BitVec.ofNat 32 s.val) = ((s.val : ℝ) : EReal) := by
    show (((BitVec.ofNat 32 s.val).toInt : ℝ) : EReal) = _
    rw [WordCmp.toInt_ofNat_of_lt (by have := s.isLt; omega)]; simp
  rw [h, step_eq, two_eq, half_eq, ← EReal.coe_add, ← EReal.coe_mul, ← EReal.coe_add]
  rfl

/-- The matrix that selects the samples strictly before a sample. -/
theorem pay11_apply (k s : Fin 192) : k0_pay11 (F := Ideal) (ix2 k s) = if k.val < s.val then 1 else 0 := by
  pointwise [k0_pay11]
  have h : IntOp.cmpi CmpIPredicate.slt (BitVec.ofNat 32 k.val) (BitVec.ofNat 32 s.val) = BitVec.ofBool (decide (k.val < s.val)) := by
    show BitVec.ofBool ((BitVec.ofNat 32 k.val).slt (BitVec.ofNat 32 s.val)) = _
    congr 1
    rw [BitVec.slt, WordCmp.toInt_ofNat_of_lt (by have := k.isLt; omega), WordCmp.toInt_ofNat_of_lt (by have := s.isLt; omega)]
    simp
  rw [h]
  show ((((BitVec.ofBool (decide (k.val < s.val))).setWidth 32).toInt : ℝ) : EReal) = _
  by_cases hks : k.val < s.val
  · rw [if_pos hks, decide_eq_true hks]; simp
  · rw [if_neg hks, decide_eq_false hks]; simp

/-- The first-layer weights, twice along the diagonal. -/
theorem pay4_apply (x : Vec Ideal S3x128 .f32) (k : Fin 6) (j : Fin 256) : k0_pay4 (F := Ideal) x (ix2 k j) =
    if h : k.val < 3 then if h1 : j.val < 128 then x (ix2 (⟨k.val, h⟩ : Fin 3) (⟨j.val, h1⟩ : Fin 128)) else 0
    else if h1 : j.val < 128 then 0 else x (ix2 (⟨k.val - 3, by omega⟩ : Fin 3) (⟨j.val - 128, by omega⟩ : Fin 128)) := by
  pointwise [k0_pay4]

/-- The bias of the first layer in its first half, zero in the second. -/
theorem pay5_apply (x : Vec Ideal S1x128 .f32) (j : Fin 256) : k0_pay5 (F := Ideal) x (ix2 (0 : Fin 1) j) =
    if h : j.val < 128 then x (ix2 (0 : Fin 1) (⟨j.val, h⟩ : Fin 128)) else 0 := by
  pointwise [k0_pay5]

/-- A sum over the six columns of a row of rays. -/
theorem sum_six (f : Fin 6 → EReal) : (∑ k, f k) = (∑ k : Fin 3, f ⟨k.val, by omega⟩) + ∑ k : Fin 3, f ⟨3 + k.val, by omega⟩ :=
  Fin.sum_univ_add (a := 3) (b := 3) f

/-- Of the products of a ray with the doubled weights, the origin's columns. -/
theorem origin_dot (x : Vec Ideal S3x128 .f32) (f : Fin 6 → EReal) (j : Fin 128) :
    (∑ k : Fin 6, f k * k0_pay4 (F := Ideal) x (ix2 k (⟨j.val, by omega⟩ : Fin 256))) = ∑ k : Fin 3, f ⟨k.val, by omega⟩ * x (ix2 k j) := by
  rw [sum_six]
  have h2 : (∑ k : Fin 3, f ⟨3 + k.val, by omega⟩ * k0_pay4 (F := Ideal) x (ix2 (⟨3 + k.val, by omega⟩ : Fin 6) (⟨j.val, by omega⟩ : Fin 256))) = 0 := by
    refine Finset.sum_eq_zero fun k _ => ?_
    rw [pay4_apply, dif_neg (by simp), dif_pos j.isLt, mul_zero]
  rw [h2, add_zero]
  refine Finset.sum_congr rfl fun k _ => ?_
  rw [pay4_apply, dif_pos k.isLt, dif_pos j.isLt]

/-- Of the products of a ray with the doubled weights, the direction's columns. -/
theorem direction_dot (x : Vec Ideal S3x128 .f32) (f : Fin 6 → EReal) (j : Fin 128) :
    (∑ k : Fin 6, f k * k0_pay4 (F := Ideal) x (ix2 k (⟨128 + j.val, by omega⟩ : Fin 256))) = ∑ k : Fin 3, f ⟨3 + k.val, by omega⟩ * x (ix2 k j) := by
  rw [sum_six]
  have h1 : (∑ k : Fin 3, f ⟨k.val, by omega⟩ * k0_pay4 (F := Ideal) x (ix2 (⟨k.val, by omega⟩ : Fin 6) (⟨128 + j.val, by omega⟩ : Fin 256))) = 0 := by
    refine Finset.sum_eq_zero fun k _ => ?_
    rw [pay4_apply, dif_pos k.isLt, dif_neg (by simp), mul_zero]
  rw [h1, zero_add]
  refine Finset.sum_congr rfl fun k _ => ?_
  rw [pay4_apply, dif_neg (by simp), dif_neg (by simp)]
  congr 3 <;> simp

/-- The affine first layer of one ray. -/
def preOf (x : Vec Ideal S3x128 .f32) (b1 : Vec Ideal S1x128 .f32) (q : Fin 6 → EReal) (j : Fin 128) (s : ℕ) : EReal :=
  preK (fun k => q ⟨k.val, by omega⟩) (fun k => q ⟨3 + k.val, by omega⟩) (fun k => x (ix2 k j)) (b1 (ix2 (0 : Fin 1) j)) s

/-- The read-out weights enter unchanged. -/
theorem pay6_eq (w : Vec Ideal S4x128 .f32) : k0_pay6 (F := Ideal) w = w := by funext i; pointwise [k0_pay6]

/-- The scaled rays of the first half, through the doubled weights. -/
theorem pay13_apply (x : Vec Ideal S3x128 .f32) (q : Vec Ideal S256x6 .f32) (r : Fin 256) (j : Fin 256) :
   k0_pay13 (F := Ideal) x q (ix2 r j) = ∑ k, (q (ix2 r k) * ((2 / 3 : ℝ) : EReal)) * k0_pay4 x (ix2 k j) := by
  pointwise [k0_pay13]
  rfl

/-- The logits of the first half of a block over any affine first layer. -/
theorem pay14_apply (b : FVec Ideal S1x256 .f32) (w : FVec Ideal S4x128 .f32) (t : FVec Ideal S1x192 .f32) (a : FVec Ideal S256x256 .f32)
    (r : Fin 256) (c : Fin 4) (s : Fin 192) : k0_pay14 b w t a (ix3 r c s) =
     ∑ j : Fin 128, w (ix2 c j) * max ((a (ix2 r (⟨j.val, by omega⟩ : Fin 256)) + b (ix2 (0 : Fin 1) (⟨j.val, by omega⟩ : Fin 256)))
        + (a (ix2 r (⟨128 + j.val, by omega⟩ : Fin 256)) + b (ix2 (0 : Fin 1) (⟨128 + j.val, by omega⟩ : Fin 256))) * t (ix2 (0 : Fin 1) s)) 0 := by
  pointwise [k0_pay14]
  simp only [Fin.sum_univ_one, Finset.univ_unique, Finset.sum_singleton]

/-- The logits of the first half of a block. -/
theorem logits_lo (x : Vec Ideal S3x128 .f32) (b1 : Vec Ideal S1x128 .f32) (w : Vec Ideal S4x128 .f32) (q : Vec Ideal S256x6 .f32)
    (r : Fin 256) (c : Fin 4) (s : Fin 192) (b : EReal) :
    k0_pay14 (F := Ideal) (k0_pay5 b1) (k0_pay6 w) k0_pay12 (k0_pay13 x q) (ix3 r c s) + b
      = logit (preOf x b1 (fun k => q (ix2 r k))) (fun j => w (ix2 c j)) b s.val := by
  rw [pay14_apply, logit]
  congr 1
  refine Finset.sum_congr rfl fun j _ => ?_
  rw [pay13_apply, pay13_apply, origin_dot, direction_dot, pay5_apply, dif_pos j.isLt, pay5_apply, dif_neg (by simp), pay12_apply, add_zero, mul_comm]
  rw [pay6_eq]
  rfl

/-- The scaled rays of the second half, through the doubled weights, with the bias. -/
theorem pay19_apply (w : FVec Ideal S6x256 .f32) (b : FVec Ideal S1x256 .f32) (q : Vec Ideal S256x6 .f32) (r : Fin 256) (i : Fin 2) (j : Fin 128) :
   k0_pay19 (F := Ideal) w b q (ix3 r i j) = (∑ k, (q (ix2 r k) * ((2 / 3 : ℝ) : EReal)) * w (ix2 k (⟨i.val * 128 + j.val, by omega⟩ : Fin 256)))
     + b (ix2 (0 : Fin 1) (⟨i.val * 128 + j.val, by omega⟩ : Fin 256)) := by
  pointwise [k0_pay19]
  rfl

/-- The logits of the second half of a block over any affine first layer. -/
theorem pay20_apply (w : FVec Ideal S4x128 .f32) (t : FVec Ideal S1x192 .f32) (a : FVec Ideal S256x2x128 .f32) (o : Ideal .f32)
    (r : Fin 256) (c : Fin 4) (s : Fin 192) : k0_pay20 w t a o (ix3 r c s) =
     ∑ j : Fin 128, w (ix2 c j) * max (a (ix3 r (0 : Fin 2) j) * o + a (ix3 r (1 : Fin 2) j) * t (ix2 (0 : Fin 1) s)) 0 := by
  pointwise [k0_pay20]
  simp only [Fin.sum_univ_one, Finset.univ_unique, Finset.sum_singleton]

/-- The scalar one. -/
theorem one_scalar : (Scalar.ofBits .f32 0x3F800000#32 : Ideal .f32) = 1 := Ideal.ofBits_one_f32

/-- The logits of the second half of a block. -/
theorem logits_hi (x : Vec Ideal S3x128 .f32) (b1 : Vec Ideal S1x128 .f32) (w : Vec Ideal S4x128 .f32) (q : Vec Ideal S256x6 .f32)
    (r : Fin 256) (c : Fin 4) (s : Fin 192) (b : EReal) :
    k0_pay20 (F := Ideal) (k0_pay6 w) k0_pay12 (k0_pay19 (k0_pay4 x) (k0_pay5 b1) q) (Scalar.ofBits .f32 0x3F800000#32) (ix3 r c s) + b
      = logit (preOf x b1 (fun k => q (ix2 r k))) (fun j => w (ix2 c j)) b s.val := by
  rw [pay20_apply, logit]
  congr 1
  refine Finset.sum_congr rfl fun j _ => ?_
  rw [pay19_apply, pay19_apply, one_scalar, pay12_apply, pay6_eq, mul_comm]
  have e0 : (⟨(0 : Fin 2).val * 128 + j.val, by simp; omega⟩ : Fin 256) = ⟨j.val, by omega⟩ := Fin.ext (by simp)
  have e1 : (⟨(1 : Fin 2).val * 128 + j.val, by simp; omega⟩ : Fin 256) = ⟨128 + j.val, by omega⟩ := Fin.ext (by simp)
  rw [e0, e1, origin_dot, direction_dot, pay5_apply, dif_pos j.isLt, pay5_apply, dif_neg (by simp), add_zero, mul_one]
  rfl

/-- The weights of the first half, from any logits. -/
theorem pay15_apply (b : FVec Ideal S1x256 .f32) (w : FVec Ideal S4x128 .f32) (bs : Ideal .f32) (t : FVec Ideal S1x192 .f32) (a : FVec Ideal S256x256 .f32)
    (r : Fin 256) (s : Fin 192) : k0_pay15 b w bs k0_pay11 t a (ix2 r s) = weight (fun k => k0_pay14 b w t a (ix3 r (0 : Fin 4) k) + bs) s := by
  pointwise [k0_pay15]
  simp only [ne_eq, not_true_eq_false, if_false, zero_sub, step_eq, logEps_eq, pay11_apply, mul_ite, mul_one, mul_zero]
  rfl

/-- The colours of the first half, channel by channel. -/
theorem pay16_apply (b0 b1 b2 : Ideal .f32) (z : FVec Ideal S256x4x192 .f32) (w : FVec Ideal S256x192 .f32)
    (r : Fin 256) (c : Fin 3) : k0_pay16 b0 b1 b2 z w (ix2 r c)
      = ∑ s, w (ix2 r s) * Ideal.logistic (z (ix3 r (⟨1 + c.val, by omega⟩ : Fin 4) s) + (![b0, b1, b2] : Fin 3 → EReal) c) := by
  pointwise [k0_pay16]
  match c with
  | ⟨0, _⟩ => rfl
  | ⟨1, _⟩ => rfl
  | ⟨2, _⟩ => rfl

/-- The colours of the second half, channel by channel. -/
theorem pay1_apply (b0 b1 b2 : Ideal .f32) (z : FVec Ideal S256x4x192 .f32) (w z0 : FVec Ideal S256x192 .f32)
    (r : Fin 256) (c : Fin 3) (h0 : ∀ s, z0 (ix2 r s) = z (ix3 r (1 : Fin 4) s) + b0) : k0_pay1 b1 b2 z w z0 (ix2 r c)
      = ∑ s, w (ix2 r s) * Ideal.logistic (z (ix3 r (⟨1 + c.val, by omega⟩ : Fin 4) s) + (![b0, b1, b2] : Fin 3 → EReal) c) := by
  pointwise [k0_pay1]
  match c with
  | ⟨0, _⟩ => exact Finset.sum_congr rfl fun s _ => by rw [h0]; rfl
  | ⟨1, _⟩ => rfl
  | ⟨2, _⟩ => rfl

/-- The weights of the second half, from any logits. -/
theorem pay21_apply (w : FVec Ideal S4x128 .f32) (bs : Ideal .f32) (t : FVec Ideal S1x192 .f32) (a : FVec Ideal S256x2x128 .f32) (o : Ideal .f32)
    (r : Fin 256) (s : Fin 192) : k0_pay21 w bs k0_pay11 t a o (ix2 r s) = weight (fun k => k0_pay20 w t a o (ix3 r (0 : Fin 4) k) + bs) s := by
  pointwise [k0_pay21]
  simp only [ne_eq, not_true_eq_false, if_false, zero_sub, step_eq, logEps_eq, pay11_apply, mul_ite, mul_one, mul_zero]
  rfl

/-- The first colour logit of the second half. -/
theorem pay22_apply (w : FVec Ideal S4x128 .f32) (bs : Ideal .f32) (t : FVec Ideal S1x192 .f32) (a : FVec Ideal S256x2x128 .f32) (o : Ideal .f32)
    (r : Fin 256) (s : Fin 192) : k0_pay22 w bs t a o (ix2 r s) = k0_pay20 w t a o (ix3 r (1 : Fin 4) s) + bs := by
  pointwise [k0_pay22]

/-- The opacity of the first half's rays. -/
theorem pay17_apply (w : FVec Ideal S256x192 .f32) (r : Fin 256) : k0_pay17 w (ix2 r (0 : Fin 1)) = ∑ s, w (ix2 r s) := by
  pointwise [k0_pay17]

/-- The opacity of the second half's rays. -/
theorem pay2_apply (w : FVec Ideal S256x192 .f32) (r : Fin 256) : k0_pay2 w (ix2 r (0 : Fin 1)) = ∑ s, w (ix2 r s) := by
  pointwise [k0_pay2]

/-- The distance of the first half's rays. -/
theorem pay18_apply (t : FVec Ideal S1x192 .f32) (w : FVec Ideal S256x192 .f32) (r : Fin 256) :
    k0_pay18 t w (ix2 r (0 : Fin 1)) = ∑ s, w (ix2 r s) * t (ix2 (0 : Fin 1) s) := by
  pointwise [k0_pay18]

/-- The distance of the second half's rays. -/
theorem pay3_apply (t : FVec Ideal S1x192 .f32) (w : FVec Ideal S256x192 .f32) (r : Fin 256) :
    k0_pay3 t w (ix2 r (0 : Fin 1)) = ∑ s, w (ix2 r s) * t (ix2 (0 : Fin 1) s) := by
  pointwise [k0_pay3]

end Cert.KernelIdeal.Block

end
-- ==== Proof.KerOut.lean ====
/-
  What the body leaves in its three output blocks, row by row: the colours, opacity and distance of the block's rays.
-/
module

public import proofs.«01_k».proof.Proof.KerBlock
public import proofs.«01_k».proof.Proof.Gen.KernelIdeal.Frame
public import Idealize.ShloMosaic.Lib.Pipeline.Value
public import Idealize.ShloMosaic.Lib.Pipeline.ValueKit.Tiles

@[expose] public section

set_option maxRecDepth 16384

noncomputable section

namespace Cert.KernelIdeal.Block

open Cert.KernelIdeal Cert.KernelIdeal.Gen Idealize.ShloMosaic Cert.Ray

/-- The zero offsets as a constant function. -/
theorem hz : (![0, 0] : Fin 2 → Nat) = fun _ => 0 := funext fun a => by fin_cases a <;> rfl

variable (x0 : Vec Ideal S512x6 .f32) (x1 : Vec Ideal S3x128 .f32) (x2 : Vec Ideal S1x128 .f32) (x3 : Vec Ideal S4x128 .f32)
  (x4 : Vec Ideal S1x1 .f32) (x5 : Vec Ideal S1x3 .f32)

/-- The density bias. -/
theorem pay7_eq : k0_pay7 (F := Ideal) (View.ld x4 r0_3) = x4 (ix2 (0 : Fin 1) (0 : Fin 1)) := by
  rw [View.ld_unit_zero hz]; pointwise [k0_pay7]

/-- The first colour bias. -/
theorem pay8_eq : k0_pay8 (F := Ideal) (View.ld x5 r0_4) = x5 (ix2 (0 : Fin 1) (0 : Fin 3)) := by
  pointwise [k0_pay8]

/-- The second colour bias. -/
theorem pay9_eq : k0_pay9 (F := Ideal) (View.ld x5 r0_5) = x5 (ix2 (0 : Fin 1) (1 : Fin 3)) := by
  pointwise [k0_pay9]

/-- The third colour bias. -/
theorem pay10_eq : k0_pay10 (F := Ideal) (View.ld x5 r0_6) = x5 (ix2 (0 : Fin 1) (2 : Fin 3)) := by
  pointwise [k0_pay10]

/-- The first half's rays. -/
theorem rows_lo (r : Fin 256) (k : Fin 6) : View.ld x0 r0_7 (ix2 r k) = x0 (ix2 (⟨r.val, by omega⟩ : Fin 512) k) :=
  View.ld_unit_apply_of x0 _ _ _ _ _ fun a => match a with
    | ⟨0, _⟩ => (Nat.zero_add _).symm
    | ⟨1, _⟩ => (Nat.zero_add _).symm

/-- The second half's rays. -/
theorem rows_hi (r : Fin 256) (k : Fin 6) : View.ld x0 r0_10 (ix2 r k) = x0 (ix2 (⟨256 + r.val, by omega⟩ : Fin 512) k) :=
  View.ld_unit_apply_of x0 _ _ _ _ _ fun a => match a with
    | ⟨0, _⟩ => rfl
    | ⟨1, _⟩ => (Nat.zero_add _).symm

/-- The logits of a ray of the first half. -/
theorem logit_lo (r : Fin 256) (c : Fin 4) (s : Fin 192) (b : EReal) :
    k0_pay14 (F := Ideal) (k0_pay23 x0 x1 x2 x3 x4 x5) (k0_pay24 x0 x1 x2 x3 x4 x5) (k0_pay26 x0 x1 x2 x3 x4 x5) (k0_pay27 x0 x1 x2 x3 x4 x5) (ix3 r c s) + b
      = logit (preOf x1 x2 (fun k => x0 (ix2 (⟨r.val, by omega⟩ : Fin 512) k))) (fun j => x3 (ix2 c j)) b s.val := by
  unfold k0_pay23 k0_pay24 k0_pay26 k0_pay27
  rw [logits_lo, View.ld_unit_zero hz, View.ld_unit_zero hz, View.ld_unit_zero hz]
  exact congrArg (fun q => logit (preOf x1 x2 q) (fun j => x3 (ix2 c j)) b s.val) (funext (rows_lo x0 r))

/-- The logits of a ray of the second half. -/
theorem logit_hi (r : Fin 256) (c : Fin 4) (s : Fin 192) (b : EReal) :
    k0_pay20 (F := Ideal) (k0_pay24 x0 x1 x2 x3 x4 x5) (k0_pay26 x0 x1 x2 x3 x4 x5) (k0_pay29 x0 x1 x2 x3 x4 x5) (Scalar.ofBits .f32 0x3F800000#32) (ix3 r c s) + b
      = logit (preOf x1 x2 (fun k => x0 (ix2 (⟨256 + r.val, by omega⟩ : Fin 512) k))) (fun j => x3 (ix2 c j)) b s.val := by
  unfold k0_pay24 k0_pay26 k0_pay29 k0_pay23
  rw [logits_hi, View.ld_unit_zero hz, View.ld_unit_zero hz, View.ld_unit_zero hz]
  exact congrArg (fun q => logit (preOf x1 x2 q) (fun j => x3 (ix2 c j)) b s.val) (funext (rows_hi x0 r))

/-- The weights of a ray of the first half. -/
theorem weight_lo (r : Fin 256) (s : Fin 192) : k0_pay28 (F := Ideal) x0 x1 x2 x3 x4 x5 (ix2 r s)
    = weight (fun k => logit (preOf x1 x2 (fun k => x0 (ix2 (⟨r.val, by omega⟩ : Fin 512) k))) (fun j => x3 (ix2 (0 : Fin 4) j)) (x4 (ix2 (0 : Fin 1) (0 : Fin 1))) k.val) s := by
  unfold k0_pay28 k0_pay25
  rw [pay15_apply, pay7_eq]
  simp only [logit_lo]

/-- The weights of a ray of the second half. -/
theorem weight_hi (r : Fin 256) (s : Fin 192) : k0_pay30 (F := Ideal) x0 x1 x2 x3 x4 x5 (ix2 r s)
    = weight (fun k => logit (preOf x1 x2 (fun k => x0 (ix2 (⟨256 + r.val, by omega⟩ : Fin 512) k))) (fun j => x3 (ix2 (0 : Fin 4) j)) (x4 (ix2 (0 : Fin 1) (0 : Fin 1))) k.val) s := by
  unfold k0_pay30 k0_pay25
  rw [pay21_apply, pay7_eq]
  simp only [logit_hi]

/-- The three colour biases, as a row. -/
theorem biases (c : Fin 3) : (![k0_pay8 (F := Ideal) (View.ld x5 r0_4), k0_pay9 (F := Ideal) (View.ld x5 r0_5), k0_pay10 (F := Ideal) (View.ld x5 r0_6)] : Fin 3 → EReal) c
    = x5 (ix2 (0 : Fin 1) c) := by
  rw [pay8_eq, pay9_eq, pay10_eq]
  match c with
  | ⟨0, _⟩ => rfl
  | ⟨1, _⟩ => rfl
  | ⟨2, _⟩ => rfl

/-- Of two stores, one above the other at row 256, a row below 256 reads the earlier. -/
theorem canon_lo {n : ℕ} (rb : ∀ a : Fin 2, (![256, 0] : Fin 2 → ℕ) a + (![256, n] : Fin 2 → ℕ) a ≤ (![512, n] : Fin 2 → ℕ) a)
    (ra : ∀ a : Fin 2, (![0, 0] : Fin 2 → ℕ) a + (![256, n] : Fin 2 → ℕ) a ≤ (![512, n] : Fin 2 → ℕ) a)
    (hi lo : Vec Ideal ⟨2, ![256, n]⟩ .f32) (r : Fin 256) (c : Fin n) :
    View.canon (Val := Elt Ideal) (s := ⟨2, ![512, n]⟩) (e := .f32) [⟨Rect.unit (s := ⟨2, ![512, n]⟩) ![256, 0] ![256, n] rb, hi⟩, ⟨Rect.unit (s := ⟨2, ![512, n]⟩) ![0, 0] ![256, n] ra, lo⟩]
      (ix2 (⟨r.val, by omega⟩ : Fin 512) c) = lo (ix2 r c) := by
  rw [View.canon_cons_of_not_mem]
  · have e : (ix2 (⟨r.val, by omega⟩ : Fin 512) c) = (Rect.unit (s := ⟨2, ![512, n]⟩) ![0, 0] ![256, n] ra).emb (ix2 r c) := by
      funext a
      apply Fin.ext
      match a with
      | ⟨0, _⟩ => show r.val = 0 + 1 * r.val; omega
      | ⟨1, _⟩ => show c.val = 0 + 1 * c.val; omega
    rw [e, View.canon_cons_emb]
  · intro h
    have h2 : 256 ≤ r.val := ((Rect.mem_set_unit (inb := rb)).mp h (0 : Fin 2)).1
    omega

/-- Of two stores, one above the other at row 256, a row from 256 on reads the later. -/
theorem canon_hi {n : ℕ} (rb : ∀ a : Fin 2, (![256, 0] : Fin 2 → ℕ) a + (![256, n] : Fin 2 → ℕ) a ≤ (![512, n] : Fin 2 → ℕ) a)
    (L : List (View.Piece (Elt Ideal) ⟨2, ![512, n]⟩ .f32))
    (hi : Vec Ideal ⟨2, ![256, n]⟩ .f32) (r : Fin 256) (c : Fin n) :
    View.canon (Val := Elt Ideal) (s := ⟨2, ![512, n]⟩) (e := .f32) (⟨Rect.unit (s := ⟨2, ![512, n]⟩) ![256, 0] ![256, n] rb, hi⟩ :: L)
      (ix2 (⟨256 + r.val, by omega⟩ : Fin 512) c) = hi (ix2 r c) := by
  have e : (ix2 (⟨256 + r.val, by omega⟩ : Fin 512) c) = (Rect.unit (s := ⟨2, ![512, n]⟩) ![256, 0] ![256, n] rb).emb (ix2 r c) := by
    funext a
    apply Fin.ext
    match a with
    | ⟨0, _⟩ => show 256 + r.val = 256 + 1 * r.val; omega
    | ⟨1, _⟩ => show c.val = 0 + 1 * c.val; omega
  rw [e, View.canon_cons_emb]

/-- Every row of a block is in its first half or in its second. -/
theorem halves (P : Fin 512 → Prop) (lo : ∀ r : Fin 256, P ⟨r.val, by omega⟩) (hi : ∀ r : Fin 256, P ⟨256 + r.val, by omega⟩) (r : Fin 512) : P r := by
  by_cases h : r.val < 256
  · exact lo ⟨r.val, h⟩
  · have := hi ⟨r.val - 256, by omega⟩
    have e : (⟨256 + (r.val - 256), by omega⟩ : Fin 512) = r := Fin.ext (by simp; omega)
    rwa [e] at this

/-- The colours of a block's rays. -/
theorem out6_apply (r : Fin 512) (c : Fin 3) : out0_6 (F := Ideal) x0 x1 x2 x3 x4 x5 (ix2 r c)
    = colour (preOf x1 x2 (fun k => x0 (ix2 r k))) (fun j => x3 (ix2 (0 : Fin 4) j)) (x4 (ix2 (0 : Fin 1) (0 : Fin 1)))
        (fun j => x3 (ix2 (⟨1 + c.val, by omega⟩ : Fin 4) j)) (x5 (ix2 (0 : Fin 1) c)) := by
  refine halves (fun r => out0_6 (F := Ideal) x0 x1 x2 x3 x4 x5 (ix2 r c) = colour (preOf x1 x2 (fun k => x0 (ix2 r k))) _ _ _ _) (fun r => ?_) (fun r => ?_) r
  · unfold out0_6
    refine (canon_lo _ _ _ _ r c).trans ?_
    rw [pay16_apply, biases]
    exact Finset.sum_congr rfl fun s _ => by rw [weight_lo, logit_lo]
  · unfold out0_6
    refine (canon_hi _ _ _ r c).trans ?_
    rw [pay1_apply (k0_pay8 (View.ld x5 r0_4)) _ _ _ _ _ _ _ (fun s => pay22_apply _ _ _ _ _ _ _), biases]
    exact Finset.sum_congr rfl fun s _ => by rw [weight_hi, logit_hi]

/-- The opacities of a block's rays. -/
theorem out7_apply (r : Fin 512) : out0_7 (F := Ideal) x0 x1 x2 x3 x4 x5 (ix2 r (0 : Fin 1))
    = opacity (preOf x1 x2 (fun k => x0 (ix2 r k))) (fun j => x3 (ix2 (0 : Fin 4) j)) (x4 (ix2 (0 : Fin 1) (0 : Fin 1))) := by
  refine halves (fun r => out0_7 (F := Ideal) x0 x1 x2 x3 x4 x5 (ix2 r (0 : Fin 1)) = opacity (preOf x1 x2 (fun k => x0 (ix2 r k))) _ _) (fun r => ?_) (fun r => ?_) r
  · unfold out0_7
    refine (canon_lo _ _ _ _ r 0).trans ?_
    rw [pay17_apply]
    exact Finset.sum_congr rfl fun s _ => by rw [weight_lo]
  · unfold out0_7
    refine (canon_hi _ _ _ r 0).trans ?_
    rw [pay2_apply]
    exact Finset.sum_congr rfl fun s _ => by rw [weight_hi]

/-- The distances of a block's rays. -/
theorem out8_apply (r : Fin 512) : out0_8 (F := Ideal) x0 x1 x2 x3 x4 x5 (ix2 r (0 : Fin 1))
    = distance (preOf x1 x2 (fun k => x0 (ix2 r k))) (fun j => x3 (ix2 (0 : Fin 4) j)) (x4 (ix2 (0 : Fin 1) (0 : Fin 1))) := by
  refine halves (fun r => out0_8 (F := Ideal) x0 x1 x2 x3 x4 x5 (ix2 r (0 : Fin 1)) = distance (preOf x1 x2 (fun k => x0 (ix2 r k))) _ _) (fun r => ?_) (fun r => ?_) r
  · unfold out0_8
    refine (canon_lo _ _ _ _ r 0).trans ?_
    rw [pay18_apply]
    exact Finset.sum_congr rfl fun s _ => by rw [weight_lo]; unfold k0_pay26; rw [pay12_apply]
  · unfold out0_8
    refine (canon_hi _ _ _ r 0).trans ?_
    rw [pay3_apply]
    exact Finset.sum_congr rfl fun s _ => by rw [weight_hi]; unfold k0_pay26; rw [pay12_apply]

end Cert.KernelIdeal.Block

end
-- ==== Proof.KerBlocks.lean ====
/-
  The blocks the kernel's windows stage, read off @main's arguments: each input window's block at a grid point.
-/
module

public import proofs.«01_k».proof.Proof.KerOut

@[expose] public section

set_option maxRecDepth 16384

noncomputable section

namespace Cert.KernelIdeal.Block

open Cert.KernelIdeal Cert.KernelIdeal.Gen Idealize.ShloMosaic Idealize.ShloMosaic.TcCoe Idealize.SL.Sem Cert.Ray
open Idealize.ShloMosaic.Pipeline (Dat)

variable (m : (ℓ : Loc nD τ sig) → Buf (Elt Ideal) ℓ) (c : Dev nD)

/-- The joined read-out weights before their transposition. -/
theorem V_main_v1 : (V m c main_v1 : Vec Ideal S4x128 .f32)
    = transpose S4x128 [1, 0] (concatenate S128x4 1 [⟨S128x1, m ((c : Thread nD τ).loc main_arg3)⟩, ⟨S128x3, m ((c : Thread nD τ).loc main_arg5)⟩] concatenates_S128x1_S128x3_S128x4_d1)
        transposes_S128x4_S4x128_1_0 := by
  show StableHlo.after hostOps0 _ (Proc.devRef .tc main_v1) = _
  after_results

/-- The first layer's bias as a row. -/
theorem V_main_v2 : (V m c main_v2 : Vec Ideal S1x128 .f32) = shapeCast S1x128 (m ((c : Thread nD τ).loc main_arg2)) shapeCasts_S128_S1x128 := by
  show StableHlo.after hostOps0 _ (Proc.devRef .tc main_v2) = _
  after_results
  rfl

/-- The density bias as a 1x1 array. -/
theorem V_main_v3 : (V m c main_v3 : Vec Ideal S1x1 .f32) = shapeCast S1x1 (m ((c : Thread nD τ).loc main_arg4)) shapeCasts_S1_S1x1 := by
  show StableHlo.after hostOps0 _ (Proc.devRef .tc main_v3) = _
  after_results
  rfl

/-- The colour biases as a row. -/
theorem V_main_v4 : (V m c main_v4 : Vec Ideal S1x3 .f32) = shapeCast S1x3 (m ((c : Thread nD τ).loc main_arg6)) shapeCasts_S3_S1x3 := by
  show StableHlo.after hostOps0 _ (Proc.devRef .tc main_v4) = _
  after_results
  rfl

/-- The ray window's block index is the grid point. -/
theorem index0 : ∀ t : Fin cfg0.N, win0_0.index t 0 = t.val ∧ win0_0.index t 1 = 0 := by decide +kernel

/-- A grid point's ray `r` is ray `512 t + r` of the argument. -/
theorem iblk0_apply (t : Fin cfg0.N) (r : Fin 512) (k : Fin 6) (n : Fin 4096) (hn : n.val = t.val * 512 + r.val) :
    iblk m c 0 t (ix2 r k) = m ((c : Thread nD τ).loc main_arg0) (ix2 n k) := by
  rw [← V_main_arg0 m c]
  show V m c main_arg0 (((cfg0.win 0).blk t).view.emb (ix2 r k)) = _
  congr 1
  funext a
  apply Fin.ext
  match a with
  | ⟨0, _⟩ =>
    show win0_0.index t 0 * 512 + 1 * r.val = n.val
    rw [(index0 t).1]; omega
  | ⟨1, _⟩ =>
    show win0_0.index t 1 * 6 + 1 * k.val = k.val
    rw [(index0 t).2]; omega

/-- The first-layer weight window is the whole array at every grid step. -/
theorem index1 : ∀ t : Fin cfg0.N, win0_1.index t 0 = 0 ∧ win0_1.index t 1 = 0 := by decide +kernel
/-- The first-layer bias window is the whole array at every grid step. -/
theorem index2 : ∀ t : Fin cfg0.N, win0_2.index t 0 = 0 ∧ win0_2.index t 1 = 0 := by decide +kernel
/-- The read-out weight window is the whole array at every grid step. -/
theorem index3 : ∀ t : Fin cfg0.N, win0_3.index t 0 = 0 ∧ win0_3.index t 1 = 0 := by decide +kernel
/-- The density bias window is the whole array at every grid step. -/
theorem index4 : ∀ t : Fin cfg0.N, win0_4.index t 0 = 0 ∧ win0_4.index t 1 = 0 := by decide +kernel
/-- The colour bias window is the whole array at every grid step. -/
theorem index5 : ∀ t : Fin cfg0.N, win0_5.index t 0 = 0 ∧ win0_5.index t 1 = 0 := by decide +kernel

/-- Every grid point stages the whole first layer. -/
theorem iblk1_apply (t : Fin cfg0.N) (k : Fin 3) (j : Fin 128) : iblk m c 1 t (ix2 k j) = m ((c : Thread nD τ).loc main_arg1) (ix2 k j) := by
  rw [← V_main_arg1 m c]
  show V m c main_arg1 (((cfg0.win 1).blk t).view.emb (ix2 k j)) = _
  congr 1
  funext a
  apply Fin.ext
  match a with
  | ⟨0, _⟩ =>
    show win0_1.index t 0 * 3 + 1 * k.val = k.val
    rw [(index1 t).1]; omega
  | ⟨1, _⟩ =>
    show win0_1.index t 1 * 128 + 1 * j.val = j.val
    rw [(index1 t).2]; omega

/-- Every grid point stages the whole bias of the first layer. -/
theorem iblk2_apply (t : Fin cfg0.N) (j : Fin 128) : iblk m c 2 t (ix2 (0 : Fin 1) j) = m ((c : Thread nD τ).loc main_arg2) (ix1 j) := by
  have e : ((cfg0.win 2).blk t).view.emb (ix2 (0 : Fin 1) j) = (ix2 (0 : Fin 1) j : S1x128.Idx) := by
    funext a
    apply Fin.ext
    match a with
    | ⟨0, _⟩ =>
      show win0_2.index t 0 * 1 + 1 * 0 = 0
      rw [(index2 t).1]
    | ⟨1, _⟩ =>
      show win0_2.index t 1 * 128 + 1 * j.val = j.val
      rw [(index2 t).2]; omega
  show V m c main_v2 (((cfg0.win 2).blk t).view.emb (ix2 (0 : Fin 1) j)) = _
  rw [e]
  refine (congrFun (V_main_v2 m c) (ix2 (0 : Fin 1) j)).trans ?_
  generalize m ((c : Thread nD τ).loc main_arg2) = x
  pointwise

/-- Every grid point stages both read-outs' weights, the density's first. -/
theorem iblk3_apply (t : Fin cfg0.N) (q : Fin 4) (j : Fin 128) : iblk m c 3 t (ix2 q j)
    = if h : q.val < 1 then m ((c : Thread nD τ).loc main_arg3) (ix2 j (⟨q.val, h⟩ : Fin 1)) else m ((c : Thread nD τ).loc main_arg5) (ix2 j (⟨q.val - 1, by omega⟩ : Fin 3)) := by
  have e : ((cfg0.win 3).blk t).view.emb (ix2 q j) = (ix2 q j : S4x128.Idx) := by
    funext a
    apply Fin.ext
    match a with
    | ⟨0, _⟩ =>
      show win0_3.index t 0 * 4 + 1 * q.val = q.val
      rw [(index3 t).1]; omega
    | ⟨1, _⟩ =>
      show win0_3.index t 1 * 128 + 1 * j.val = j.val
      rw [(index3 t).2]; omega
  show V m c main_v1 (((cfg0.win 3).blk t).view.emb (ix2 q j)) = _
  rw [e]
  refine (congrFun (V_main_v1 m c) (ix2 q j)).trans ?_
  generalize m ((c : Thread nD τ).loc main_arg3) = x
  generalize m ((c : Thread nD τ).loc main_arg5) = y
  pointwise

/-- Every grid point stages the density bias. -/
theorem iblk4_apply (t : Fin cfg0.N) : iblk m c 4 t (ix2 (0 : Fin 1) (0 : Fin 1)) = m ((c : Thread nD τ).loc main_arg4) (ix1 (0 : Fin 1)) := by
  have e : ((cfg0.win 4).blk t).view.emb (ix2 (0 : Fin 1) (0 : Fin 1)) = (ix2 (0 : Fin 1) (0 : Fin 1) : S1x1.Idx) := by
    funext a
    apply Fin.ext
    match a with
    | ⟨0, _⟩ =>
      show win0_4.index t 0 * 1 + 1 * 0 = 0
      rw [(index4 t).1]
    | ⟨1, _⟩ =>
      show win0_4.index t 1 * 1 + 1 * 0 = 0
      rw [(index4 t).2]
  show V m c main_v3 (((cfg0.win 4).blk t).view.emb (ix2 (0 : Fin 1) (0 : Fin 1))) = _
  rw [e]
  refine (congrFun (V_main_v3 m c) (ix2 (0 : Fin 1) (0 : Fin 1))).trans ?_
  generalize m ((c : Thread nD τ).loc main_arg4) = x
  pointwise

/-- Every grid point stages the colour biases. -/
theorem iblk5_apply (t : Fin cfg0.N) (q : Fin 3) : iblk m c 5 t (ix2 (0 : Fin 1) q) = m ((c : Thread nD τ).loc main_arg6) (ix1 q) := by
  have e : ((cfg0.win 5).blk t).view.emb (ix2 (0 : Fin 1) q) = (ix2 (0 : Fin 1) q : S1x3.Idx) := by
    funext a
    apply Fin.ext
    match a with
    | ⟨0, _⟩ =>
      show win0_5.index t 0 * 1 + 1 * 0 = 0
      rw [(index5 t).1]
    | ⟨1, _⟩ =>
      show win0_5.index t 1 * 3 + 1 * q.val = q.val
      rw [(index5 t).2]; omega
  show V m c main_v4 (((cfg0.win 5).blk t).view.emb (ix2 (0 : Fin 1) q)) = _
  rw [e]
  refine (congrFun (V_main_v4 m c) (ix2 (0 : Fin 1) q)).trans ?_
  generalize m ((c : Thread nD τ).loc main_arg6) = x
  pointwise

end Cert.KernelIdeal.Block

end
-- ==== Proof.KerArray.lean ====
/-
  What the kernel's program leaves in its three results: the colours, opacities and distances of all rays.
-/
module

public import proofs.«01_k».proof.Proof.KerBlocks
public import Idealize.ShloMosaic.Lib.Pipeline.ValueKit.Geometry

@[expose] public section

set_option maxRecDepth 16384

noncomputable section

namespace Cert.KernelIdeal.Block

open Cert.KernelIdeal Cert.KernelIdeal.Gen Idealize.ShloMosaic Idealize.ShloMosaic.TcCoe Idealize.SL.Sem Cert.Ray
open Idealize.ShloMosaic.Pipeline (Dat)

variable (m : (ℓ : Loc nD τ sig) → Buf (Elt Ideal) ℓ) (ρ : Dev nD → PrngReg) (c : Dev nD)

/-- The colours of every ray, from the arguments in memory. -/
def rgb : S4096x3.Idx → EReal := fun i =>
  colours (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) (i 0) (i 1)

/-- The opacities of every ray, from the arguments in memory. -/
def opac : S4096.Idx → EReal := fun i =>
  opacities (m ((c : Thread nD τ).loc main_arg0)) (m ((c : Thread nD τ).loc main_arg1)) (m ((c : Thread nD τ).loc main_arg2))
    (m ((c : Thread nD τ).loc main_arg3)) (m ((c : Thread nD τ).loc main_arg4)) (i 0)

/-- The distances of every ray, from the arguments in memory. -/
def dist : S4096.Idx → EReal := fun i =>
  distances (m ((c : Thread nD τ).loc main_arg0)) (m ((c : Thread nD τ).loc main_arg1)) (m ((c : Thread nD τ).loc main_arg2))
    (m ((c : Thread nD τ).loc main_arg3)) (m ((c : Thread nD τ).loc main_arg4)) (i 0)

/-- The hidden units' inputs of a staged ray. -/
theorem pre_iblk (t : Fin cfg0.N) (r : Fin 512) (n : Fin 4096) (hn : n.val = t.val * 512 + r.val) :
    preOf (iblk m c 1 t) (iblk m c 2 t) (fun k => iblk m c 0 t (ix2 r k))
      = hiddenK (m ((c : Thread nD τ).loc main_arg0)) (m ((c : Thread nD τ).loc main_arg1)) (m ((c : Thread nD τ).loc main_arg2)) n := by
  funext j s
  unfold preOf hiddenK
  simp only [fun k => iblk0_apply m c t r k n hn, iblk1_apply, iblk2_apply]

/-- The density weights staged. -/
theorem sigma_iblk (t : Fin cfg0.N) : (fun j : Fin 128 => iblk m c 3 t (ix2 (0 : Fin 4) j)) = fun j => m ((c : Thread nD τ).loc main_arg3) (ix2 j (0 : Fin 1)) := by
  funext j
  rw [iblk3_apply]
  rfl

/-- The colour weights staged. -/
theorem color_iblk (t : Fin cfg0.N) (q : Fin 3) :
    (fun j : Fin 128 => iblk m c 3 t (ix2 (⟨1 + q.val, by omega⟩ : Fin 4) j)) = fun j => m ((c : Thread nD τ).loc main_arg5) (ix2 j q) := by
  funext j
  rw [iblk3_apply, dif_neg (by simp)]
  congr 2
  exact Fin.ext (by simp)

/-- Grid step `t` writes row block `t` of the colour array. -/
theorem index6 : ∀ t : Fin cfg0.N, win0_6.index t 0 = t.val ∧ win0_6.index t 1 = 0 := by decide +kernel
/-- Grid step `t` writes row block `t` of the opacity array. -/
theorem index7 : ∀ t : Fin cfg0.N, win0_7.index t 0 = t.val ∧ win0_7.index t 1 = 0 := by decide +kernel
/-- Grid step `t` writes row block `t` of the distance array. -/
theorem index8 : ∀ t : Fin cfg0.N, win0_8.index t 0 = t.val ∧ win0_8.index t 1 = 0 := by decide +kernel

/-- A row of a grid point's block is a row of the array. -/
theorem row_lt (t : Fin cfg0.N) (r : Fin 512) : t.val * 512 + r.val < 4096 := by
  have h : t.val < 8 := lt_of_lt_of_eq t.isLt (by decide : cfg0.N = 8)
  omega

/-- The colour array after the run. -/
theorem arr6 : (dats m 0 c).arrAt 6 cfg0.N = rgb m c := by
  refine (dats m 0 c).arrAt_eq_of_covers 6 (rgb m c) (by decide +kernel) (fun t _ y => ?_)
  obtain ⟨r, q, rfl⟩ : ∃ (r : Fin 512) (q : Fin 3), y = ix2 r q := ⟨y 0, y 1, eq_ix2 y⟩
  have e : ((cfg0.win 6).blk t).view.emb (ix2 r q) = (ix2 (⟨t.val * 512 + r.val, row_lt t r⟩ : Fin 4096) q : S4096x3.Idx) := by
    funext a
    apply Fin.ext
    match a with
    | ⟨0, _⟩ =>
      show win0_6.index t 0 * 512 + 1 * r.val = t.val * 512 + r.val
      rw [(index6 t).1]; omega
    | ⟨1, _⟩ =>
      show win0_6.index t 1 * 3 + 1 * q.val = q.val
      rw [(index6 t).2]; omega
  rw [e]
  show (dats m 0 c).after 6 t (ix2 r q) = _
  rw [after0_6]
  refine (out6_apply _ _ _ _ _ _ r q).trans ?_
  rw [pre_iblk m c t r (⟨t.val * 512 + r.val, row_lt t r⟩ : Fin 4096) rfl, sigma_iblk, color_iblk, iblk4_apply, iblk5_apply]
  rfl

/-- The opacity array after the run. -/
theorem arr7 : (dats m 0 c).arrAt 7 cfg0.N = fun i : S4096x1.Idx => opac m c (ix1 (i 0)) := by
  refine (dats m 0 c).arrAt_eq_of_covers 7 (fun i : S4096x1.Idx => opac m c (ix1 (i 0))) (by decide +kernel) (fun t _ y => ?_)
  obtain ⟨r, rfl⟩ : ∃ (r : Fin 512), y = ix2 r (0 : Fin 1) := ⟨y 0, (eq_ix2 y).trans (congrArg (ix2 (y 0)) (Subsingleton.elim (α := Fin 1) _ _))⟩
  have e : ((cfg0.win 7).blk t).view.emb (ix2 r (0 : Fin 1)) = (ix2 (⟨t.val * 512 + r.val, row_lt t r⟩ : Fin 4096) (0 : Fin 1) : S4096x1.Idx) := by
    funext a
    apply Fin.ext
    match a with
    | ⟨0, _⟩ =>
      show win0_7.index t 0 * 512 + 1 * r.val = t.val * 512 + r.val
      rw [(index7 t).1]; omega
    | ⟨1, _⟩ =>
      show win0_7.index t 1 * 1 + 1 * 0 = 0
      rw [(index7 t).2]
  rw [e]
  show (dats m 0 c).after 7 t (ix2 r (0 : Fin 1)) = _
  rw [after0_7]
  refine (out7_apply _ _ _ _ _ _ r).trans ?_
  rw [pre_iblk m c t r (⟨t.val * 512 + r.val, row_lt t r⟩ : Fin 4096) rfl, sigma_iblk, iblk4_apply]
  rfl

/-- The distance array after the run. -/
theorem arr8 : (dats m 0 c).arrAt 8 cfg0.N = fun i : S4096x1.Idx => dist m c (ix1 (i 0)) := by
  refine (dats m 0 c).arrAt_eq_of_covers 8 (fun i : S4096x1.Idx => dist m c (ix1 (i 0))) (by decide +kernel) (fun t _ y => ?_)
  obtain ⟨r, rfl⟩ : ∃ (r : Fin 512), y = ix2 r (0 : Fin 1) := ⟨y 0, (eq_ix2 y).trans (congrArg (ix2 (y 0)) (Subsingleton.elim (α := Fin 1) _ _))⟩
  have e : ((cfg0.win 8).blk t).view.emb (ix2 r (0 : Fin 1)) = (ix2 (⟨t.val * 512 + r.val, row_lt t r⟩ : Fin 4096) (0 : Fin 1) : S4096x1.Idx) := by
    funext a
    apply Fin.ext
    match a with
    | ⟨0, _⟩ =>
      show win0_8.index t 0 * 512 + 1 * r.val = t.val * 512 + r.val
      rw [(index8 t).1]; omega
    | ⟨1, _⟩ =>
      show win0_8.index t 1 * 1 + 1 * 0 = 0
      rw [(index8 t).2]
  rw [e]
  show (dats m 0 c).after 8 t (ix2 r (0 : Fin 1)) = _
  rw [after0_8]
  refine (out8_apply _ _ _ _ _ _ r).trans ?_
  rw [pre_iblk m c t r (⟨t.val * 512 + r.val, row_lt t r⟩ : Fin 4096) rfl, sigma_iblk, iblk4_apply]
  rfl

/-- Dropping the unit column of an array of rows. -/
theorem drop_column (x : S4096x1.Idx → EReal) (f : S4096.Idx → EReal) (h : x = fun i => f (ix1 (i 0))) :
    shapeCast (α := EReal) S4096 x shapeCasts_S4096x1_S4096 = f := by
  subst h
  funext i
  obtain ⟨n, rfl⟩ : ∃ n : Fin 4096, i = ix1 n := ⟨i 0, eq_ix1 i⟩
  pointwise

/-- The second result after the run. -/
theorem tail6 : Pipeline.afterTail₀ cfgs (dats m) 0 (V0 m) [hostOps1] c main_v6 = opac m c := by
  unfold Pipeline.afterTail₀
  show StableHlo.after hostOps1 _ (Proc.devRef .tc main_v6) = _
  after_results
  exact drop_column _ _ ((Pipeline.withArrays_arr _ launch0.win.arr_inj c (V0 m c) _ 7).trans (arr7 m c))

/-- The third result after the run. -/
theorem tail7 : Pipeline.afterTail₀ cfgs (dats m) 0 (V0 m) [hostOps1] c main_v7 = dist m c := by
  unfold Pipeline.afterTail₀
  show StableHlo.after hostOps1 _ (Proc.devRef .tc main_v7) = _
  after_results
  exact drop_column _ _ ((Pipeline.withArrays_arr _ launch0.win.arr_inj c (V0 m c) _ 8).trans (arr8 m c))

/-- The kernel's run: its three results are the colours, opacities and distances, its arguments unchanged. -/
theorem run : θ_run defs (onTc (τ := τ) (main (F := Ideal))) ⟨m, fun _ => 0, ρ⟩ fun r => ∀ c : Dev nD,
      r.2.mem ((c : Thread nD τ).loc main_v5_0) = rgb m c
      ∧ r.2.mem ((c : Thread nD τ).loc main_v6) = opac m c
      ∧ r.2.mem ((c : Thread nD τ).loc main_v7) = dist m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨((h.1 c).1 6).trans (arr6 m c),
      ((h.1 c).2 main_v6 (Pipeline.mem_restRefs_of main_v6 (by decide) (by decide))).trans (tail6 m c),
      ((h.1 c).2 main_v7 (Pipeline.mem_restRefs_of main_v7 (by decide) (by decide))).trans (tail7 m c),
      h.2 c⟩) (θ_run_and (run_main m ρ) (unchanged m ρ))

end Cert.KernelIdeal.Block

end
-- ==== Proof.Segment.lean ====
/-
  Sums over the samples of one ray: adding every update into the row its index names, and the running sum along a row.
-/
module

public import Idealize.ShloMosaic.Lib.Pointwise
public import Idealize.ShloMosaic.Lib.Routing.Ops

@[expose] public section

set_option maxRecDepth 16384

noncomputable section

namespace Cert.Segment

open Idealize.ShloMosaic

/-- An update lands at `x` exactly when start plus window coordinate is `x`'s coordinate on every axis. -/
theorem lands_iff {s si u : Shape} (d : ScatterDims s si u) (j : u.Idx) (idx : IVec si 32) (x : s.Idx) :
    d.resultIdx? j idx = some x ↔ ∀ a, d.start j idx a + d.window j a = ((x a).val : ℤ) := by
  unfold ScatterDims.resultIdx?
  constructor
  · intro e a
    split at e
    · rename_i h
      have e2 := congrFun (Option.some.inj e) a
      rw [← e2]
      exact (Int.toNat_of_nonneg (h a).1).symm
    · cases e
  · intro e
    have h : ∀ a, 0 ≤ d.start j idx a + d.window j a ∧ d.start j idx a + d.window j a < s.size a := fun a => by
      rw [e a]
      exact ⟨Int.natCast_nonneg _, by exact_mod_cast (x a).isLt⟩
    rw [dif_pos h]
    refine congrArg some (funext fun a => Fin.ext ?_)
    show (d.start j idx a + d.window j a).toNat = _
    rw [e a]
    rfl

/-- One row index per update: a scalar update lands in row `r` exactly when its index, read signed, is `r`. -/
theorem lands_scalar {R N : ℕ} (d : ScatterDims ⟨1, ![R]⟩ ⟨2, ![N, 1]⟩ ⟨1, ![N]⟩) (h1 : d.updateWindowDims = [])
    (h2 : d.insertedWindowDims = [0]) (h3 : d.scatterDimsToOperandDims = [0]) (h4 : d.indexVectorDim = 1)
    (idx : IVec ⟨2, ![N, 1]⟩ 32) (n : Fin N) (r : Fin R) :
    d.resultIdx? (ix1 n) idx = some (ix1 r) ↔ (idx (ix2 n 0)).toInt = (r.val : ℤ) := by
  obtain ⟨uw, iw, sd, iv, wf⟩ := d
  dsimp only at h1 h2 h3 h4
  subst h1 h2 h3 h4
  rw [lands_iff]
  have hs : ∀ b, ScatterDims.siIdx ⟨[], [0], [0], 1, wf⟩ (ix1 n) b = (ix2 n 0 : (⟨2, ![N, 1]⟩ : Shape).Idx) := fun b => by
    funext a
    match a with
    | ⟨0, _⟩ => rfl
    | ⟨1, _⟩ => exact Subsingleton.elim (α := Fin 1) _ _
  have e1 : ScatterDims.start ⟨[], [0], [0], 1, wf⟩ (ix1 n) idx (0 : Fin 1) = (idx (ix2 n 0)).toInt := by
    unfold ScatterDims.start
    rw [dif_pos (by exact List.mem_singleton.2 rfl), hs]
  have e2 : ScatterDims.window ⟨[], [0], [0], 1, wf⟩ (ix1 n) (0 : Fin 1) = 0 := rfl
  constructor
  · intro h
    have := h (0 : Fin 1)
    rw [e1, e2] at this
    simpa using this
  · intro h a
    have ha : a = (0 : Fin 1) := Subsingleton.elim (α := Fin 1) _ _
    subst ha
    rw [e1, e2, h]
    simp

/-- One row index per update row: entry `k` of an update row lands at `(r, q)` exactly when its row's index is `r` and `k = q`. -/
theorem lands_row {R N K : ℕ} (d : ScatterDims ⟨2, ![R, K]⟩ ⟨2, ![N, 1]⟩ ⟨2, ![N, K]⟩) (h1 : d.updateWindowDims = [1])
    (h2 : d.insertedWindowDims = [0]) (h3 : d.scatterDimsToOperandDims = [0]) (h4 : d.indexVectorDim = 1)
    (idx : IVec ⟨2, ![N, 1]⟩ 32) (n : Fin N) (k : Fin K) (r : Fin R) (q : Fin K) :
    d.resultIdx? (ix2 n k) idx = some (ix2 r q) ↔ (idx (ix2 n 0)).toInt = (r.val : ℤ) ∧ k = q := by
  obtain ⟨uw, iw, sd, iv, wf⟩ := d
  dsimp only at h1 h2 h3 h4
  subst h1 h2 h3 h4
  rw [lands_iff]
  have hs : ∀ b, ScatterDims.siIdx ⟨[1], [0], [0], 1, wf⟩ (ix2 n k) b = (ix2 n 0 : (⟨2, ![N, 1]⟩ : Shape).Idx) := fun b => by
    funext a
    match a with
    | ⟨0, _⟩ => rfl
    | ⟨1, _⟩ => exact Subsingleton.elim (α := Fin 1) _ _
  have e1 : ScatterDims.start ⟨[1], [0], [0], 1, wf⟩ (ix2 n k) idx (0 : Fin 2) = (idx (ix2 n 0)).toInt := by
    unfold ScatterDims.start
    rw [dif_pos (by exact List.mem_singleton.2 rfl), hs]
  have e2 : ScatterDims.window ⟨[1], [0], [0], 1, wf⟩ (ix2 n k) (0 : Fin 2) = 0 := rfl
  have e3 : ScatterDims.start ⟨[1], [0], [0], 1, wf⟩ (ix2 n k) idx (1 : Fin 2) = 0 := rfl
  have e4 : ScatterDims.window ⟨[1], [0], [0], 1, wf⟩ (ix2 n k) (1 : Fin 2) = k.val := rfl
  constructor
  · intro h
    have p := h (0 : Fin 2)
    have p' := h (1 : Fin 2)
    rw [e1, e2] at p
    rw [e3, e4] at p'
    refine ⟨by simpa using p, Fin.ext ?_⟩
    have p2 : ((k.val : ℕ) : ℤ) = ((q.val : ℕ) : ℤ) := by simpa using p'
    exact_mod_cast p2
  · rintro ⟨h, rfl⟩ a
    match a with
    | ⟨0, _⟩ =>
      show ScatterDims.start ⟨[1], [0], [0], 1, wf⟩ (ix2 n k) idx (0 : Fin 2)
        + ((ScatterDims.window ⟨[1], [0], [0], 1, wf⟩ (ix2 n k) (0 : Fin 2) : ℕ) : ℤ) = _
      rw [e1, e2, h]
      simp
    | ⟨1, _⟩ =>
      show ScatterDims.start ⟨[1], [0], [0], 1, wf⟩ (ix2 n k) idx (1 : Fin 2)
        + ((ScatterDims.window ⟨[1], [0], [0], 1, wf⟩ (ix2 n k) (1 : Fin 2) : ℕ) : ℤ) = _
      rw [e3, e4]
      simp

/-- Sample `s` of row `r` has a place in the flat list. -/
theorem row_lt {R S N : ℕ} (hN : N = R * S) (r : Fin R) (s : Fin S) : r.val * S + s.val < N := by
  have h2 := s.isLt
  subst hN
  calc r.val * S + s.val < r.val * S + S := by omega
    _ = (r.val + 1) * S := by ring
    _ ≤ R * S := Nat.mul_le_mul_right _ r.isLt

/-- The samples of row `r`, in a flat list of rows of `S` samples each: summing over those is summing over the row. -/
theorem sum_row {R S N : ℕ} (hN : N = R * S) (r : Fin R) (f : Fin N → EReal) :
    (∑ n : Fin N, if n.val / S = r.val then f n else 0)
      = ∑ s : Fin S, f ⟨r.val * S + s.val, row_lt hN r s⟩ := by
  rw [← Finset.sum_filter]
  refine (Finset.sum_bij (fun s _ => ⟨r.val * S + s.val, row_lt hN r s⟩) ?_ ?_ ?_ ?_).symm
  · intro s _
    rw [Finset.mem_filter]
    refine ⟨Finset.mem_univ _, ?_⟩
    show (r.val * S + s.val) / S = r.val
    have hS : 0 < S := lt_of_le_of_lt (Nat.zero_le _) s.isLt
    rw [Nat.mul_comm, Nat.mul_add_div hS, Nat.div_eq_of_lt s.isLt, Nat.add_zero]
  · intro a _ b _ h
    have := congrArg Fin.val h
    dsimp only at this
    exact Fin.ext (by omega)
  · intro n hn
    have h := (Finset.mem_filter.1 hn).2
    have hS : 0 < S := by
      rcases Nat.eq_zero_or_pos S with h0 | h0
      · subst h0
        have := n.isLt
        omega
      · exact h0
    refine ⟨⟨n.val % S, Nat.mod_lt _ hS⟩, Finset.mem_univ _, Fin.ext ?_⟩
    show r.val * S + n.val % S = n.val
    rw [← h, Nat.mul_comm]
    exact Nat.div_add_mod _ _
  · intro s _
    rfl

/-- Scalar updates added into a zero vector by row: entry `r` is the sum of row `r`'s samples. -/
theorem segment_scalar {R S N : ℕ} (hN : N = R * S) (d : ScatterDims ⟨1, ![R]⟩ ⟨2, ![N, 1]⟩ ⟨1, ![N]⟩) (h1 : d.updateWindowDims = [])
    (h2 : d.insertedWindowDims = [0]) (h3 : d.scatterDimsToOperandDims = [0]) (h4 : d.indexVectorDim = 1)
    (z : FVec Ideal ⟨1, ![R]⟩ .f32) (hz : ∀ r, z (ix1 r) = 0) (idx : IVec ⟨2, ![N, 1]⟩ 32)
    (hi : ∀ n : Fin N, (idx (ix2 n 0)).toInt = ((n.val / S : ℕ) : ℤ)) (u : FVec Ideal ⟨1, ![N]⟩ .f32) (r : Fin R)
    (g : Fin S → EReal) (hg : ∀ (s : Fin S) (n : Fin N), n.val = r.val * S + s.val → u (ix1 n) = g s) :
    Host.scatterAdd d z idx u (ix1 r) = ∑ s : Fin S, g s := by
  show Ideal.hostScatterAdd d z idx u (ix1 r) = _
  unfold Ideal.hostScatterAdd
  rw [hz, zero_add, Finset.sum_filter, sum_idx1]
  simp only [lands_scalar d h1 h2 h3 h4, hi]
  have e : ∀ n : Fin N, (if ((n.val / S : ℕ) : ℤ) = (r.val : ℤ) then u (ix1 n) else 0)
      = (if n.val / S = r.val then u (ix1 n) else 0) := fun n => if_congr (by exact_mod_cast Iff.rfl) rfl rfl
  rw [Finset.sum_congr rfl (fun n _ => e n), sum_row hN r (fun n => u (ix1 n))]
  exact Finset.sum_congr rfl fun s _ => hg s _ rfl

/-- Update rows added into a zero matrix by row: entry `(r, q)` is the sum of column `q` over row `r`'s samples. -/
theorem segment_row {R S N K : ℕ} (hN : N = R * S) (d : ScatterDims ⟨2, ![R, K]⟩ ⟨2, ![N, 1]⟩ ⟨2, ![N, K]⟩)
    (h1 : d.updateWindowDims = [1]) (h2 : d.insertedWindowDims = [0]) (h3 : d.scatterDimsToOperandDims = [0])
    (h4 : d.indexVectorDim = 1) (z : FVec Ideal ⟨2, ![R, K]⟩ .f32) (hz : ∀ r q, z (ix2 r q) = 0) (idx : IVec ⟨2, ![N, 1]⟩ 32)
    (hi : ∀ n : Fin N, (idx (ix2 n 0)).toInt = ((n.val / S : ℕ) : ℤ)) (u : FVec Ideal ⟨2, ![N, K]⟩ .f32) (r : Fin R) (q : Fin K)
    (g : Fin S → EReal) (hg : ∀ (s : Fin S) (n : Fin N), n.val = r.val * S + s.val → u (ix2 n q) = g s) :
    Host.scatterAdd d z idx u (ix2 r q) = ∑ s : Fin S, g s := by
  show Ideal.hostScatterAdd d z idx u (ix2 r q) = _
  unfold Ideal.hostScatterAdd
  rw [hz, zero_add, Finset.sum_filter, sum_idx2]
  simp only [lands_row d h1 h2 h3 h4, hi]
  have e : ∀ n : Fin N, (∑ k : Fin K, if ((n.val / S : ℕ) : ℤ) = (r.val : ℤ) ∧ k = q then u (ix2 n k) else 0)
      = (if n.val / S = r.val then u (ix2 n q) else 0) := fun n => by
    by_cases h : n.val / S = r.val
    · simp [h]
    · have h' : ¬ ((n.val / S : ℕ) : ℤ) = (r.val : ℤ) := fun e => h (by exact_mod_cast e)
      simp only [h, h', false_and, if_false, Finset.sum_const_zero]
  rw [Finset.sum_congr rfl (fun n _ => e n), sum_row hN r (fun n => u (ix2 n q))]
  exact Finset.sum_congr rfl fun s _ => hg s _ rfl

/-- Adding the terms of a list one after the other gives the start plus the list's sum. -/
theorem foldl_sum {α : Type} (f : α → EReal) (l : List α) (v : EReal) :
    l.foldl (fun r a => r + f a) v = v + (l.map f).sum := by
  induction l generalizing v with
  | nil => simp
  | cons a l ih => rw [List.foldl_cons, ih, List.map_cons, List.sum_cons, add_assoc]

/-- The sum over a window that ends at column `j` and is padded with zeros on the left: the row's entries up to `j`. -/
theorem window_shift {N M : ℕ} (hM : N = M + 1) (j : Fin N) (f : Fin N → EReal) :
    (∑ w : Fin N, if h : M ≤ j.val + w.val ∧ j.val + w.val - M < N then f ⟨j.val + w.val - M, h.2⟩ else 0)
      = ∑ k : Fin N, if k.val ≤ j.val then f k else 0 := by
  rw [← Finset.sum_filter]
  have e : ∀ w : Fin N, (if h : M ≤ j.val + w.val ∧ j.val + w.val - M < N then f ⟨j.val + w.val - M, h.2⟩ else 0)
      = if M ≤ j.val + w.val then f ⟨j.val + w.val - M, by have := j.isLt; have := w.isLt; omega⟩ else 0 := fun w => by
    have h2 : j.val + w.val - M < N := by have := j.isLt; have := w.isLt; omega
    by_cases h : M ≤ j.val + w.val
    · rw [dif_pos ⟨h, h2⟩, if_pos h]
    · rw [dif_neg (fun q => h q.1), if_neg h]
  rw [Finset.sum_congr rfl (fun w _ => e w), ← Finset.sum_filter]
  refine Finset.sum_bij (fun w _ => ⟨j.val + w.val - M, by have := j.isLt; have := w.isLt; omega⟩) ?_ ?_ ?_ ?_
  · intro w hw
    have h := (Finset.mem_filter.1 hw).2
    rw [Finset.mem_filter]
    refine ⟨Finset.mem_univ _, ?_⟩
    show j.val + w.val - M ≤ j.val
    have := w.isLt
    omega
  · intro a ha b hb h
    have h1 := (Finset.mem_filter.1 ha).2
    have h2 := (Finset.mem_filter.1 hb).2
    have := congrArg Fin.val h
    dsimp only at this
    exact Fin.ext (by omega)
  · intro k hk
    have h := (Finset.mem_filter.1 hk).2
    have hj := j.isLt
    refine ⟨⟨k.val + M - j.val, by omega⟩, ?_, Fin.ext ?_⟩
    · rw [Finset.mem_filter]
      refine ⟨Finset.mem_univ _, ?_⟩
      show M ≤ j.val + (k.val + M - j.val)
      omega
    · show j.val + (k.val + M - j.val) - M = k.val
      omega
  · intro w _
    rfl

/-- What one window position contributes to entry `(r, j)` of the running sum: an entry of `x`, or zero where the window is padding. -/
def windowTerm {R N M : ℕ} (x : FVec Ideal ⟨2, ![R, N]⟩ .f32) (r : Fin R) (j : Fin N) (W : (⟨2, ![1, N]⟩ : Shape).Idx) : EReal :=
  if hin : ∀ a : Fin 2, (![0, M] : Fin 2 → ℕ) a ≤ ((ix2 r j : (⟨2, ![R, N]⟩ : Shape).Idx) a).val * (![1, 1] : Fin 2 → ℕ) a + (W a).val
      ∧ ((ix2 r j : (⟨2, ![R, N]⟩ : Shape).Idx) a).val * (![1, 1] : Fin 2 → ℕ) a + (W a).val - (![0, M] : Fin 2 → ℕ) a
        < (![R, N] : Fin 2 → ℕ) a
  then x (fun a => ⟨((ix2 r j : (⟨2, ![R, N]⟩ : Shape).Idx) a).val * (![1, 1] : Fin 2 → ℕ) a + (W a).val - (![0, M] : Fin 2 → ℕ) a,
    (hin a).2⟩)
  else 0

/-- Window position `w` contributes the entry `M` columns left of `j + w`, when there is one. -/
theorem windowTerm_apply {R N M : ℕ} (x : FVec Ideal ⟨2, ![R, N]⟩ .f32) (r : Fin R) (j w : Fin N) :
    windowTerm (M := M) x r j (ix2 (0 : Fin 1) w)
      = if h : M ≤ j.val + w.val ∧ j.val + w.val - M < N then x (ix2 r ⟨j.val + w.val - M, h.2⟩) else 0 := by
  unfold windowTerm
  by_cases h : M ≤ j.val + w.val ∧ j.val + w.val - M < N
  · have hin : ∀ a : Fin 2, (![0, M] : Fin 2 → ℕ) a ≤ ((ix2 r j : (⟨2, ![R, N]⟩ : Shape).Idx) a).val * (![1, 1] : Fin 2 → ℕ) a
          + ((ix2 (0 : Fin 1) w : (⟨2, ![1, N]⟩ : Shape).Idx) a).val
        ∧ ((ix2 r j : (⟨2, ![R, N]⟩ : Shape).Idx) a).val * (![1, 1] : Fin 2 → ℕ) a
          + ((ix2 (0 : Fin 1) w : (⟨2, ![1, N]⟩ : Shape).Idx) a).val - (![0, M] : Fin 2 → ℕ) a < (![R, N] : Fin 2 → ℕ) a := fun a => by
      match a with
      | ⟨0, _⟩ =>
        show 0 ≤ r.val * 1 + 0 ∧ r.val * 1 + 0 - 0 < R
        have := r.isLt
        omega
      | ⟨1, _⟩ =>
        show M ≤ j.val * 1 + w.val ∧ j.val * 1 + w.val - M < N
        rw [Nat.mul_one]
        exact h
    rw [dif_pos h, dif_pos hin]
    refine congrArg x (funext fun a => Fin.ext ?_)
    match a with
    | ⟨0, _⟩ =>
      show r.val * 1 + 0 - 0 = r.val
      omega
    | ⟨1, _⟩ =>
      show j.val * 1 + w.val - M = j.val + w.val - M
      rw [Nat.mul_one]
  · rw [dif_neg h, dif_neg]
    intro hin
    have := hin (1 : Fin 2)
    apply h
    have e : M ≤ j.val * 1 + w.val ∧ j.val * 1 + w.val - M < N := this
    rw [Nat.mul_one] at e
    exact e

/-- The running sum along the rows of a matrix: entry `(r, j)` is the sum of row `r` up to and including column `j`. -/
theorem running_sum {R N M : ℕ} (hM : N = M + 1) (x : FVec Ideal ⟨2, ![R, N]⟩ .f32) {v : Shape} (z : FVec Ideal v .f32)
    (hz : ∀ i, z i = 0) (h : Shape.ReduceWindows ⟨2, ![R, N]⟩ ![1, N] ![1, 1] ![0, M] ![0, 0] ⟨2, ![R, N]⟩) (hu : 0 < v.numel)
    (r : Fin R) (j : Fin N) :
    Host.reduceWindowAdd (t := ⟨2, ![R, N]⟩) ![1, N] ![1, 1] ![0, M] ![0, 0] x z h hu (ix2 r j)
      = ∑ k : Fin N, if k.val ≤ j.val then x (ix2 r k) else 0 := by
  show Ideal.hostReduceWindowAdd (t := ⟨2, ![R, N]⟩) ![1, N] ![1, 1] ![0, M] ![0, 0] h x (z (Shape.Idx.first hu)) (ix2 r j) = _
  rw [hz]
  unfold Ideal.hostReduceWindowAdd Host.reduceWindow
  dsimp only
  rw [foldl_sum, zero_add, ← Fin.sum_univ_def]
  refine (Finset.sum_congr rfl fun n _ => ?_).trans
    ((Equiv.sum_comp (Shape.rowMajor ⟨2, ![1, N]⟩).symm (windowTerm (M := M) x r j)).trans ?_)
  · exact dite_congr rfl (fun _ => rfl) (fun _ => rfl)
  rw [sum_idx2, Fin.sum_univ_one, ← window_shift hM j (fun k => x (ix2 r k))]
  exact Finset.sum_congr rfl fun w _ => windowTerm_apply x r j w

end Cert.Segment

end
-- ==== Proof.RefTake.lean ====
/-
  The reference's sample positions: the interval ends, and each sample's ray read back at the sample's row.
-/
module

public import proofs.«01_k».proof.Proof.Gen.ReferenceIdeal.Read
public import proofs.«01_k».proof.Proof.Scalars
public import proofs.«01_k».proof.Proof.Segment
public import Idealize.ShloMosaic.Lib.Pointwise
public import Idealize.ShloMosaic.Lib.WordCmp
public import Idealize.ShloMosaic.Lib.Routing.Ops

@[expose] public section

set_option maxRecDepth 16384

noncomputable section

namespace Cert.ReferenceIdeal.Rays

open Cert.ReferenceIdeal Cert.ReferenceIdeal.Gen Cert.ReferenceIdeal.Read Idealize.ShloMosaic Cert.Ray

/-- The number of intervals. -/
theorem bits_192 : Ideal.ofBits .f32 1128267776#32 = ((192 : ℝ) : EReal) := by
  simp [Ideal.ofBits, Ideal.ieee, -EReal.coe_mul]
  norm_num

/-- The far bound. -/
theorem bits_6 : Ideal.ofBits .f32 1086324736#32 = ((6 : ℝ) : EReal) := by
  simp [Ideal.ofBits, Ideal.ieee, -EReal.coe_mul]
  norm_num

/-- The near bound. -/
theorem bits_2 : Ideal.ofBits .f32 1073741824#32 = ((2 : ℝ) : EReal) := by
  simp [Ideal.ofBits, Ideal.ieee, -EReal.coe_mul]
  norm_num

/-- Interval end `k` of the reference's grid is `2 + k/48`. -/
theorem ends_apply (k : Fin 193) : val_main_v2 (F := Ideal) (ix1 k) = ((2 + (k.val : ℝ) / 48 : ℝ) : EReal) := by
  pointwise [val_main_v2, val_main_call0_v15, val_main_call0_v14, val_main_call0_v11, val_main_call0_v16, val_main_call0_v13, val_main_call0_v12, val_main_call0_v10, val_main_call0_v9, val_main_call0_v8, val_main_call0_v7, val_main_call0_v6, val_main_call0_v5, val_main_call0_v4, val_main_call0_v3, val_main_call0_v2, val_main_call0_v1, val_main_call0_v0, val_main_call0_cst, val_main_call0_cst_0, val_main_call0_cst_1, val_main_cst_1, val_main_cst_2]
  have h6 : id (constant (F := Ideal) S_ .f32 1086324736#32) ix0 = ((6 : ℝ) : EReal) := bits_6
  have h2 : id (constant (F := Ideal) S_ .f32 1073741824#32) ix0 = ((2 : ℝ) : EReal) := bits_2
  split
  · rename_i h
    rw [h6, h2, bits_192]
    have hk : (BitVec.ofNat 32 k.val).toInt = (k.val : ℤ) := WordCmp.toInt_ofNat_of_lt (by omega)
    have hs : (FloatOps.sitofp (F := Ideal) .f32 (BitVec.ofNat 32 k.val) : EReal) = ((k.val : ℝ) : EReal) := by
      show (((BitVec.ofNat 32 k.val).toInt : ℝ) : EReal) = _
      rw [hk]
      norm_cast
    rw [hs, Ideal.div_coe (by norm_num), ← EReal.coe_one, ← EReal.coe_mul, ← EReal.coe_sub, ← EReal.coe_mul, ← EReal.coe_mul,
      ← EReal.coe_add]
    congr 1
    ring
  · rename_i h
    rw [h6]
    have : k.val = 192 := by have := k.isLt; omega
    rw [this]
    norm_num

/-- The lower end of sample `n`'s interval. -/
theorem lower_apply (n : Fin 786432) : val_main_v5 (F := Ideal) (ix1 n) = ((2 + ((n.val % 192 : ℕ) : ℝ) / 48 : ℝ) : EReal) := by
  pointwise [val_main_v5, val_main_v4, val_main_v3]
  rw [ends_apply]

/-- The upper end of sample `n`'s interval. -/
theorem upper_apply (n : Fin 786432) : val_main_v8 (F := Ideal) (ix1 n) = ((2 + (((n.val % 192 : ℕ) : ℝ) + 1) / 48 : ℝ) : EReal) := by
  pointwise [val_main_v8, val_main_v7, val_main_v6]
  rw [ends_apply]
  congr 2
  push_cast
  ring

/-- Sample `n` belongs to ray `n / 192`. -/
theorem row_apply (n : Fin 786432) : val_main_v11 (F := Ideal) (ix1 n) = BitVec.ofNat 32 (n.val / 192) := by
  pointwise [val_main_v11, val_main_v10, val_main_v9]

/-- Read signed, sample `n`'s ray number is `n / 192`. -/
theorem row_toInt (n : Fin 786432) : (BitVec.ofNat 32 (n.val / 192)).toInt = ((n.val / 192 : ℕ) : ℤ) :=
  WordCmp.toInt_ofNat_of_lt (by have := n.isLt; omega)

/-- A ray number is not below zero, so the index wrap leaves it. -/
theorem row_nonneg (n : Fin 786432) : IntOp.cmpi .slt (BitVec.ofNat 32 (n.val / 192)) 0#32 = 0#1 :=
  (WordCmp.cmpi_slt_ofNat_eq_zero_iff (by have := n.isLt; omega) (by omega)).2 (by omega)

/-- A ray number is at least zero. -/
theorem row_ge (n : Fin 786432) : IntOp.cmpi .sge (BitVec.ofNat 32 (n.val / 192)) 0#32 = 1#1 :=
  (WordCmp.cmpi_sge_ofNat_eq_one_iff (by have := n.isLt; omega) (by omega)).2 (by omega)

/-- A ray number is at most the last row's. -/
theorem row_le (n : Fin 786432) : IntOp.cmpi .sle (BitVec.ofNat 32 (n.val / 192)) 4095#32 = 1#1 :=
  (WordCmp.cmpi_sle_ofNat_eq_one_iff (by have := n.isLt; omega) (by omega)).2 (by have := n.isLt; omega)

/-- The origins' row index after the index wrap. -/
theorem wrapped_o (n : Fin 786432) : val_main_call1_v5 (F := Ideal) (ix2 n (0 : Fin 1)) = BitVec.ofNat 32 (n.val / 192) := by
  pointwise [val_main_call1_v5, val_main_call1_v4, val_main_call1_v3, val_main_call1_v2, val_main_call1_v1, val_main_call1_v0, val_main_call1_c, val_main_call1_c_0]
  rw [row_apply, row_nonneg]
  rfl

/-- Every origin row index is in bounds. -/
theorem inside_o (n : Fin 786432) : val_main_call1_v12 (F := Ideal) (ix1 n) = 1#1 := by
  pointwise [val_main_call1_v12, val_main_call1_v11, val_main_call1_v10, val_main_call1_v9, val_main_call1_v8, val_main_call1_v7, val_main_call1_v6, val_main_call1_c_1, val_main_call1_c_2, val_main_call1_c_3]
  rw [Finset.univ_unique, Finset.fold_singleton]
  show IntOp.andi (IntOp.andi (IntOp.cmpi .sge (val_main_call1_v5 (F := Ideal) (ix2 n (0 : Fin 1))) 0#32)
    (IntOp.cmpi .sle (val_main_call1_v5 (F := Ideal) (ix2 n (0 : Fin 1))) 4095#32)) 1#1 = 1#1
  rw [wrapped_o, row_ge, row_le]
  rfl

/-- The directions' row index after the index wrap. -/
theorem wrapped_d (n : Fin 786432) : val_main_call2_v5 (F := Ideal) (ix2 n (0 : Fin 1)) = BitVec.ofNat 32 (n.val / 192) := by
  pointwise [val_main_call2_v5, val_main_call2_v4, val_main_call2_v3, val_main_call2_v2, val_main_call2_v1, val_main_call2_v0, val_main_call2_c, val_main_call2_c_0]
  rw [row_apply, row_nonneg]
  rfl

/-- Every direction row index is in bounds. -/
theorem inside_d (n : Fin 786432) : val_main_call2_v12 (F := Ideal) (ix1 n) = 1#1 := by
  pointwise [val_main_call2_v12, val_main_call2_v11, val_main_call2_v10, val_main_call2_v9, val_main_call2_v8, val_main_call2_v7, val_main_call2_v6, val_main_call2_c_1, val_main_call2_c_2, val_main_call2_c_3]
  rw [Finset.univ_unique, Finset.fold_singleton]
  show IntOp.andi (IntOp.andi (IntOp.cmpi .sge (val_main_call2_v5 (F := Ideal) (ix2 n (0 : Fin 1))) 0#32)
    (IntOp.cmpi .sle (val_main_call2_v5 (F := Ideal) (ix2 n (0 : Fin 1))) 4095#32)) 1#1 = 1#1
  rw [wrapped_d, row_ge, row_le]
  rfl

/-- Taking rows by ray number reads the sample's own ray. -/
theorem gather_apply (x : FVec Ideal S4096x3 .f32) (idx : IVec S786432x1 32) (n : Fin 786432) (k : Fin 3)
    (h : idx (ix2 n (0 : Fin 1)) = BitVec.ofNat 32 (n.val / 192)) :
    Host.gather gather_S4096x3_S786432x1_S786432x3_1_0_n_n_0_1_13 x idx (ix2 n k)
      = x (ix2 (⟨n.val / 192, by have := n.isLt; omega⟩ : Fin 4096) k) := by
  have e : ∀ {a b : ℕ} (i : Fin a) (j : Fin b), ValueIdx.ix2 i j = ix2 i j := fun i j => funext fun t => by
    match t with
    | ⟨0, _⟩ => rfl
    | ⟨1, _⟩ => rfl
  have g := Routing.gather_row gather_S4096x3_S786432x1_S786432x3_1_0_n_n_0_1_13 rfl rfl rfl rfl rfl x idx n k
    (⟨n.val / 192, by have := n.isLt; omega⟩ : Fin 4096) (by rw [e]; exact h) (by norm_num)
  rw [e, e] at g
  exact g

/-- Sample `n`'s origin is its ray's. -/
theorem origin_apply (x : Vec Ideal S4096x6 .f32) (n : Fin 786432) (k : Fin 3) :
    val_main_v12 (F := Ideal) x (ix2 n k)
      = x (ix2 (⟨n.val / 192, by have := n.isLt; omega⟩ : Fin 4096) (⟨k.val, by have := k.isLt; omega⟩ : Fin 6)) := by
  pointwise [val_main_v12, val_main_call1_v14, val_main_call1_v15, val_main_call1_cst]
  rw [inside_o]
  unfold val_main_call1_v13
  rw [gather_apply _ _ n k (wrapped_o n)]
  pointwise [val_main_v0]

/-- Sample `n`'s direction is its ray's. -/
theorem direction_apply (x : Vec Ideal S4096x6 .f32) (n : Fin 786432) (k : Fin 3) :
    val_main_v13 (F := Ideal) x (ix2 n k)
      = x (ix2 (⟨n.val / 192, by have := n.isLt; omega⟩ : Fin 4096) (⟨3 + k.val, by have := k.isLt; omega⟩ : Fin 6)) := by
  pointwise [val_main_v13, val_main_call2_v14, val_main_call2_v15, val_main_call2_cst]
  rw [inside_d]
  unfold val_main_call2_v13
  rw [gather_apply _ _ n k (wrapped_d n)]
  pointwise [val_main_v1]

end Cert.ReferenceIdeal.Rays

end
-- ==== Proof.RefRay.lean ====
/-
  What the reference computes for each sample: the hidden layer, the logits, the sample's opacity and its transmittance.
-/
module

public import proofs.«01_k».proof.Proof.RefTake

@[expose] public section

set_option maxRecDepth 16384

noncomputable section

namespace Cert.ReferenceIdeal.Rays

open Cert.ReferenceIdeal Cert.ReferenceIdeal.Gen Cert.ReferenceIdeal.Read Idealize.ShloMosaic Cert.Ray

/-- The ray of sample `n`. -/
abbrev ray (n : Fin 786432) : Fin 4096 := ⟨n.val / 192, by have := n.isLt; omega⟩

/-- The place of sample `n` along its ray. -/
abbrev along (n : Fin 786432) : Fin 192 := ⟨n.val % 192, Nat.mod_lt _ (by norm_num)⟩

/-- A hidden unit's input at every sample of a ray, as the reference forms it from @main's arguments. -/
def hiddenR (x0 : Vec Ideal S4096x6 .f32) (x1 : Vec Ideal S3x128 .f32) (x2 : Vec Ideal S128 .f32) (r : Fin 4096) (j : Fin 128) (s : ℕ) : EReal :=
  preR (fun k => x0 (ix2 r (⟨k.val, by omega⟩ : Fin 6))) (fun k => x0 (ix2 r (⟨3 + k.val, by omega⟩ : Fin 6))) (fun k => x1 (ix2 k j)) (x2 (ix1 j)) s

/-- The density logits of a ray. -/
def density (x0 : Vec Ideal S4096x6 .f32) (x1 : Vec Ideal S3x128 .f32) (x2 : Vec Ideal S128 .f32) (x3 : Vec Ideal S128x1 .f32)
    (x4 : Vec Ideal S1 .f32) (r : Fin 4096) (s : Fin 192) : EReal :=
  logit (hiddenR x0 x1 x2 r) (fun j => x3 (ix2 j (0 : Fin 1))) (x4 (ix1 (0 : Fin 1))) s.val

/-- The constant -3/2. -/
theorem bits_low : Ideal.ofBits .f32 0xBFC00000#32 = ((-(3 / 2) : ℝ) : EReal) := by
  simp [Ideal.ofBits, Ideal.ieee, -EReal.coe_mul]
  norm_num

/-- The constant 3/2. -/
theorem bits_high : Ideal.ofBits .f32 0x3FC00000#32 = ((3 / 2 : ℝ) : EReal) := by
  simp [Ideal.ofBits, Ideal.ieee, -EReal.coe_mul]
  norm_num

/-- The clip's lower bound. -/
theorem bits_eps : Ideal.ofBits .f32 0x2EDBE6FF#32 = ((14411519 / 144115188075855872 : ℝ) : EReal) := by
  simp [Ideal.ofBits, Ideal.ieee, -EReal.coe_mul]
  norm_num

/-- The midpoint of sample `n`'s interval. -/
theorem middle_apply (n : Fin 786432) : val_main_v17 (F := Ideal) (ix2 n (0 : Fin 1)) = ((mid (along n).val : ℝ) : EReal) := by
  pointwise [val_main_v17, val_main_v16, val_main_v15, val_main_v14, val_main_cst_3]
  rw [lower_apply, upper_apply, bits_2, ← EReal.coe_add, Ideal.div_coe (by norm_num), ← EReal.coe_mul]
  congr 1
  unfold mid
  ring

/-- A hidden unit's input at sample `n`. -/
theorem hidden_apply (x0 : Vec Ideal S4096x6 .f32) (x1 : Vec Ideal S3x128 .f32) (x2 : Vec Ideal S128 .f32) (n : Fin 786432) (j : Fin 128) :
    val_main_v35 (F := Ideal) x0 x1 x2 (ix2 n j) = hiddenR x0 x1 x2 (ray n) j (along n).val := by
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_cst, val_main_cst_0, val_main_cst_4, val_main_cst_5]
  have h3 : ((3 / 2 : ℝ) : EReal) - ((-(3 / 2) : ℝ) : EReal) = ((3 : ℝ) : EReal) := by
    rw [← EReal.coe_sub]
    norm_num
  rw [bits_low, bits_high, bits_2, h3]
  unfold hiddenR preR
  simp only [origin_apply, direction_apply, middle_apply, Ideal.div_coe (by norm_num : (3 : ℝ) ≠ 0)]

/-- The density logit of sample `n`. -/
theorem density_apply (x0 : Vec Ideal S4096x6 .f32) (x1 : Vec Ideal S3x128 .f32) (x2 : Vec Ideal S128 .f32) (x3 : Vec Ideal S128x1 .f32)
    (x4 : Vec Ideal S1 .f32) (n : Fin 786432) :
    val_main_v41 (F := Ideal) x0 x1 x2 x3 x4 (ix2 n (0 : Fin 1)) = density x0 x1 x2 x3 x4 (ray n) (along n) := by
  pointwise [val_main_v41, val_main_v40, val_main_v39, val_main_v38, val_main_v37, val_main_v36, val_main_cst_6]
  simp only [hidden_apply]
  rfl

/-- The colour of sample `n` in channel `q`. -/
theorem shade_apply (x0 : Vec Ideal S4096x6 .f32) (x1 : Vec Ideal S3x128 .f32) (x2 : Vec Ideal S128 .f32)
    (x5 : Vec Ideal S128x3 .f32) (x6 : Vec Ideal S3 .f32) (n : Fin 786432) (q : Fin 3) :
    val_main_v53 (F := Ideal) x0 x1 x2 x5 x6 (ix2 n q)
      = Ideal.logistic (logit (hiddenR x0 x1 x2 (ray n)) (fun j => x5 (ix2 j q)) (x6 (ix1 q)) (along n).val) := by
  pointwise [val_main_v53, val_main_v52, val_main_v51, val_main_v50, val_main_v49, val_main_v48, val_main_v47, val_main_v46, val_main_v45, val_main_v44, val_main_v37, val_main_v36, val_main_cst_6, val_main_cst_7, val_main_cst_8]
  simp only [hidden_apply]
  rfl

/-- The density of sample `n`. -/
theorem softplus_apply (x0 : Vec Ideal S4096x6 .f32) (x1 : Vec Ideal S3x128 .f32) (x2 : Vec Ideal S128 .f32) (x3 : Vec Ideal S128x1 .f32)
    (x4 : Vec Ideal S1 .f32) (n : Fin 786432) :
    val_main_v43 (F := Ideal) x0 x1 x2 x3 x4 (ix1 n) = softplus (density x0 x1 x2 x3 x4 (ray n) (along n)) := by
  pointwise [val_main_v43, val_main_v42, val_main_call3_v11, val_main_call3_v10, val_main_call3_v9, val_main_call3_v8, val_main_call3_v7, val_main_call3_v6, val_main_call3_v5, val_main_call3_v4, val_main_call3_v3, val_main_call3_v2, val_main_call3_v1, val_main_call3_v0, val_main_call3_cst]
  rw [if_neg (fun h => h rfl), density_apply]
  rfl

/-- The negated optical depth of sample `n`. -/
theorem depth_apply (x0 : Vec Ideal S4096x6 .f32) (x1 : Vec Ideal S3x128 .f32) (x2 : Vec Ideal S128 .f32) (x3 : Vec Ideal S128x1 .f32)
    (x4 : Vec Ideal S1 .f32) (n : Fin 786432) :
    val_main_v56 (F := Ideal) x0 x1 x2 x3 x4 (ix1 n) = -depth (density x0 x1 x2 x3 x4 (ray n) (along n)) := by
  pointwise [val_main_v56, val_main_v55, val_main_v54]
  have h : (((2 + (((n.val % 192 : ℕ) : ℝ) + 1) / 48 : ℝ) : EReal) - ((2 + ((n.val % 192 : ℕ) : ℝ) / 48 : ℝ) : EReal)) = ((1 / 48 : ℝ) : EReal) := by
    rw [← EReal.coe_sub]
    congr 1
    ring
  rw [softplus_apply, lower_apply, upper_apply, h, EReal.neg_mul]
  rfl

/-- The opacity of sample `n`. -/
theorem alpha_apply (x0 : Vec Ideal S4096x6 .f32) (x1 : Vec Ideal S3x128 .f32) (x2 : Vec Ideal S128 .f32) (x3 : Vec Ideal S128x1 .f32)
    (x4 : Vec Ideal S1 .f32) (n : Fin 786432) :
    val_main_v59 (F := Ideal) x0 x1 x2 x3 x4 (ix1 n) = alpha (density x0 x1 x2 x3 x4 (ray n) (along n)) := by
  pointwise [val_main_v59, val_main_v58, val_main_v57, val_main_cst_9]
  rw [depth_apply]
  rfl

/-- The logarithm of sample `n`'s transmittance. -/
theorem logT_apply (x0 : Vec Ideal S4096x6 .f32) (x1 : Vec Ideal S3x128 .f32) (x2 : Vec Ideal S128 .f32) (x3 : Vec Ideal S128x1 .f32)
    (x4 : Vec Ideal S1 .f32) (n : Fin 786432) :
    val_main_v63 (F := Ideal) x0 x1 x2 x3 x4 (ix1 n) = logT (density x0 x1 x2 x3 x4 (ray n) (along n)) := by
  pointwise [val_main_v63, val_main_v62, val_main_call4_v4, val_main_call4_v3, val_main_call4_v2, val_main_call4_v1, val_main_call4_v0, val_main_v61, val_main_v60, val_main_cst_10, val_main_cst_11, val_main_cst_12]
  have h1 : id (constant (F := Ideal) S_ .f32 0x3F800000#32) ix0 = (1 : EReal) := Ideal.ofBits_one_f32
  have he : id (constant (F := Ideal) S_ .f32 0x2EDBE6FF#32) ix0 = ((14411519 / 144115188075855872 : ℝ) : EReal) := bits_eps
  rw [h1, he, alpha_apply]
  exact log_clip _ (depth_nonneg _)

/-- The logarithm of the transmittances, ray by ray. -/
theorem table_apply (x0 : Vec Ideal S4096x6 .f32) (x1 : Vec Ideal S3x128 .f32) (x2 : Vec Ideal S128 .f32) (x3 : Vec Ideal S128x1 .f32)
    (x4 : Vec Ideal S1 .f32) (r : Fin 4096) (s : Fin 192) :
    val_main_v64 (F := Ideal) x0 x1 x2 x3 x4 (ix2 r s) = logT (density x0 x1 x2 x3 x4 r s) := by
  pointwise [val_main_v64]
  rw [logT_apply]
  have h1 : ray ⟨r.val * 192 + s.val, by omega⟩ = r := Fin.ext (by show (r.val * 192 + s.val) / 192 = r.val; omega)
  have h2 : along ⟨r.val * 192 + s.val, by omega⟩ = s := Fin.ext (by show (r.val * 192 + s.val) % 192 = s.val; omega)
  rw [h1, h2]

/-- The sum of the logarithms up to and including sample `s`. -/
theorem running_apply (x0 : Vec Ideal S4096x6 .f32) (x1 : Vec Ideal S3x128 .f32) (x2 : Vec Ideal S128 .f32) (x3 : Vec Ideal S128x1 .f32)
    (x4 : Vec Ideal S1 .f32) (r : Fin 4096) (s : Fin 192) :
    val_main_v66 (F := Ideal) x0 x1 x2 x3 x4 (ix2 r s)
      = ∑ k : Fin 192, if k.val ≤ s.val then logT (density x0 x1 x2 x3 x4 r k) else 0 := by
  unfold val_main_v66
  have z : ∀ i, val_main_call5_call0_v0 (F := Ideal) i = 0 := fun i => Ideal.ofBits_zero_f32
  rw [Cert.Segment.running_sum rfl _ _ z _ _ r s]
  simp only [table_apply]

/-- The sum of the logarithms of the samples before sample `s`. -/
theorem before_apply (x0 : Vec Ideal S4096x6 .f32) (x1 : Vec Ideal S3x128 .f32) (x2 : Vec Ideal S128 .f32) (x3 : Vec Ideal S128x1 .f32)
    (x4 : Vec Ideal S1 .f32) (r : Fin 4096) (s : Fin 192) :
    val_main_v68 (F := Ideal) x0 x1 x2 x3 x4 (ix2 r s)
      = ∑ k : Fin 192, if k.val < s.val then logT (density x0 x1 x2 x3 x4 r k) else 0 := by
  pointwise [val_main_v68, val_main_v67, val_main_v65, val_main_cst_13]
  split
  · rename_i h
    refine (Finset.sum_eq_zero fun k _ => if_neg (by omega)).symm
  · rename_i h
    rw [running_apply]
    refine Finset.sum_congr rfl fun k _ => if_congr ?_ rfl rfl
    show k.val ≤ s.val - 1 ↔ k.val < s.val
    omega

/-- The weight of sample `n`. -/
theorem weight_apply (x0 : Vec Ideal S4096x6 .f32) (x1 : Vec Ideal S3x128 .f32) (x2 : Vec Ideal S128 .f32) (x3 : Vec Ideal S128x1 .f32)
    (x4 : Vec Ideal S1 .f32) (n : Fin 786432) :
    val_main_v71 (F := Ideal) x0 x1 x2 x3 x4 (ix1 n) = weight (density x0 x1 x2 x3 x4 (ray n)) (along n) := by
  pointwise [val_main_v71, val_main_v70, val_main_v69]
  rw [alpha_apply, before_apply]
  rfl

end Cert.ReferenceIdeal.Rays

end
-- ==== Proof.RefValue.lean ====
/-
  The reference's three results, ray by ray, and its run.
-/
module

public import proofs.«01_k».proof.Proof.RefRay
public import proofs.«01_k».proof.Proof.Gen.ReferenceIdeal.Run

@[expose] public section

set_option maxRecDepth 16384

noncomputable section

namespace Cert.ReferenceIdeal.Rays

open Cert.ReferenceIdeal Cert.ReferenceIdeal.Gen Cert.ReferenceIdeal.Read Idealize.ShloMosaic Idealize.ShloMosaic.StableHlo Idealize.SL.Sem Cert.Ray

/-- Sample `r * 192 + s` belongs to ray `r`. -/
theorem ray_of (r : Fin 4096) (s : Fin 192) (n : Fin 786432) (h : n.val = r.val * 192 + s.val) : ray n = r :=
  Fin.ext (by show n.val / 192 = r.val; omega)

/-- Sample `r * 192 + s` is number `s` of its ray. -/
theorem along_of (r : Fin 4096) (s : Fin 192) (n : Fin 786432) (h : n.val = r.val * 192 + s.val) : along n = s :=
  Fin.ext (by show n.val % 192 = s.val; omega)

/-- The reference's colours: the sum of each ray's weighted sample colours. -/
theorem colours_apply (x0 : Vec Ideal S4096x6 .f32) (x1 : Vec Ideal S3x128 .f32) (x2 : Vec Ideal S128 .f32) (x3 : Vec Ideal S128x1 .f32)
    (x4 : Vec Ideal S1 .f32) (x5 : Vec Ideal S128x3 .f32) (x6 : Vec Ideal S3 .f32) (r : Fin 4096) (q : Fin 3) :
    val_main_v77 (F := Ideal) x0 x1 x2 x3 x4 x5 x6 (ix2 r q)
      = colour (hiddenR x0 x1 x2 r) (fun j => x3 (ix2 j (0 : Fin 1))) (x4 (ix1 (0 : Fin 1))) (fun j => x5 (ix2 j q)) (x6 (ix1 q)) := by
  unfold val_main_v77 colour
  have hz : ∀ r q, val_main_v75 (F := Ideal) (ix2 r q) = 0 := fun _ _ => Ideal.ofBits_zero_f32
  have hi : ∀ n : Fin 786432, (val_main_v76 (F := Ideal) (ix2 n (0 : Fin 1))).toInt = ((n.val / 192 : ℕ) : ℤ) := fun n => by
    have e : val_main_v76 (F := Ideal) (ix2 n (0 : Fin 1)) = BitVec.ofNat 32 (n.val / 192) := by
      pointwise [val_main_v76]
      exact row_apply n
    rw [e, row_toInt]
  refine Cert.Segment.segment_row (S := 192) (by norm_num) _ rfl rfl rfl rfl _ hz _ hi _ r q _ fun s n h => ?_
  pointwise [val_main_v74, val_main_v73, val_main_v72]
  rw [weight_apply, shade_apply, ray_of r s n h, along_of r s n h]
  rfl

/-- The reference's opacities: the sum of each ray's weights. -/
theorem opacities_apply (x0 : Vec Ideal S4096x6 .f32) (x1 : Vec Ideal S3x128 .f32) (x2 : Vec Ideal S128 .f32) (x3 : Vec Ideal S128x1 .f32)
    (x4 : Vec Ideal S1 .f32) (r : Fin 4096) :
    val_main_v80 (F := Ideal) x0 x1 x2 x3 x4 (ix1 r)
      = opacity (hiddenR x0 x1 x2 r) (fun j => x3 (ix2 j (0 : Fin 1))) (x4 (ix1 (0 : Fin 1))) := by
  unfold val_main_v80 opacity
  have hz : ∀ r, val_main_v78 (F := Ideal) (ix1 r) = 0 := fun _ => Ideal.ofBits_zero_f32
  have hi : ∀ n : Fin 786432, (val_main_v79 (F := Ideal) (ix2 n (0 : Fin 1))).toInt = ((n.val / 192 : ℕ) : ℤ) := fun n => by
    have e : val_main_v79 (F := Ideal) (ix2 n (0 : Fin 1)) = BitVec.ofNat 32 (n.val / 192) := by
      pointwise [val_main_v79]
      exact row_apply n
    rw [e, row_toInt]
  refine Cert.Segment.segment_scalar (S := 192) (by norm_num) _ rfl rfl rfl rfl _ hz _ hi _ r _ fun s n h => ?_
  rw [weight_apply, ray_of r s n h, along_of r s n h]
  rfl

/-- The reference's distances: the sum of each ray's weighted midpoints. -/
theorem distances_apply (x0 : Vec Ideal S4096x6 .f32) (x1 : Vec Ideal S3x128 .f32) (x2 : Vec Ideal S128 .f32) (x3 : Vec Ideal S128x1 .f32)
    (x4 : Vec Ideal S1 .f32) (r : Fin 4096) :
    val_main_v87 (F := Ideal) x0 x1 x2 x3 x4 (ix1 r)
      = distance (hiddenR x0 x1 x2 r) (fun j => x3 (ix2 j (0 : Fin 1))) (x4 (ix1 (0 : Fin 1))) := by
  unfold val_main_v87 distance
  have hz : ∀ r, val_main_v85 (F := Ideal) (ix1 r) = 0 := fun _ => Ideal.ofBits_zero_f32
  have hi : ∀ n : Fin 786432, (val_main_v86 (F := Ideal) (ix2 n (0 : Fin 1))).toInt = ((n.val / 192 : ℕ) : ℤ) := fun n => by
    have e : val_main_v86 (F := Ideal) (ix2 n (0 : Fin 1)) = BitVec.ofNat 32 (n.val / 192) := by
      pointwise [val_main_v86]
      exact row_apply n
    rw [e, row_toInt]
  refine Cert.Segment.segment_scalar (S := 192) (by norm_num) _ rfl rfl rfl rfl _ hz _ hi _ r _ fun s n h => ?_
  pointwise [val_main_v84, val_main_v83, val_main_v82, val_main_v81, val_main_cst_16]
  rw [lower_apply, upper_apply, bits_2, half_ends, weight_apply, ray_of r s n h]
  have ha : n.val % 192 = s.val := congrArg Fin.val (along_of r s n h)
  rw [along_of r s n h, ha]
  rfl

variable (m : (ℓ : Loc nD τ sig) → Buf (Elt Ideal) ℓ) (ρ : Dev nD → PrngReg)

/-- The reference's run: its results are the three stages of its own arguments, which end unchanged. -/
theorem run : θ_run defs (onTc (τ := τ) (main (F := Ideal))) ⟨m, fun _ => 0, ρ⟩ fun r => ∀ c : Dev nD,
      r.2.mem ((c.tc : Thread nD τ).loc main_v77) = val_main_v77 (F := Ideal) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
      ∧ r.2.mem ((c.tc : Thread nD τ).loc main_v80) = val_main_v80 (F := Ideal) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4))
      ∧ r.2.mem ((c.tc : Thread nD τ).loc main_v87) = val_main_v87 (F := Ideal) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (val_main_v77_eq (launchContents m c)),
    (h c).2.1.trans (val_main_v80_eq (launchContents m c)), (h c).2.2.1.trans (val_main_v87_eq (launchContents m c)), (h c).2.2.2⟩)
    (Cert.ReferenceIdeal.Value.run m ρ)

end Cert.ReferenceIdeal.Rays

end
-- ==== Proof.Equation.lean ====
/-
  The equation: at finite rays and first-layer weights the reference's results are the kernel's.
-/
module

public import proofs.«01_k».proof.Pre_finite_positions
public import proofs.«01_k».proof.Proof.Gen.Pre_finite_positions
public import proofs.«01_k».proof.Proof.RefValue
public import Idealize.ShloMosaic.Lib.ReduceAll
public import Idealize.ShloMosaic.Lib.Affine

@[expose] public section

set_option maxRecDepth 16384

noncomputable section

namespace Cert.Equation

open Idealize.ShloMosaic Cert.Ray Cert.Pre_finite_positions Cert.ReferenceIdeal.Rays Cert.ReferenceIdeal.Read

/-- The bound the precondition compares with is infinity. -/
theorem bits_inf : Ideal.ofBits .f32 0x7F800000#32 = (⊤ : EReal) := by
  simp [Ideal.ofBits, Ideal.ieee]

/-- A value whose magnitude is below infinity is a real. -/
theorem real_of_olt (x : EReal) (h : Ideal.cmp .olt (max x (-x)) (⊤ : EReal) = 1#1) : ∃ r : ℝ, x = (r : EReal) := by
  induction x with
  | bot => simp [Ideal.cmp] at h
  | top => simp [Ideal.cmp] at h
  | coe r => exact ⟨r, rfl⟩

/-- The precondition says every ray entry and every first-layer weight is a real. -/
theorem finite_of_pre [Facts] (x0 : FVec Ideal S4096x6 .f32) (x1 : FVec Ideal S3x128 .f32) (x2 : FVec Ideal S128 .f32)
    (x3 : FVec Ideal S128x1 .f32) (x4 : FVec Ideal S1 .f32) (x5 : FVec Ideal S128x3 .f32) (x6 : FVec Ideal S3 .f32)
    (h : fn (F := Ideal) x0 x1 x2 x3 x4 x5 x6 = fun _ => 1#1) :
    (∀ i, ∃ r : ℝ, x0 i = (r : EReal)) ∧ (∀ i, ∃ r : ℝ, x1 i = (r : EReal)) := by
  have hs : Subsingleton S_.Idx := ⟨fun a b => funext fun k => k.elim0⟩
  have e := congrFun h ix0
  unfold fn at e
  obtain ⟨e0, e1⟩ := IntOp.andi_eq_one.1 e
  have hb := bits_inf
  refine ⟨fun i => real_of_olt _ ?_, fun i => real_of_olt _ ?_⟩
  · have := Host.reduce_andi_all _ _ _ _ _ e0 i
    rw [← hb]
    exact this
  · have := Host.reduce_andi_all _ _ _ _ _ e1 i
    rw [← hb]
    exact this

/-- At finite rays and first-layer weights the reference's hidden units are the kernel's. -/
theorem hidden_eq (x0 : FVec Ideal S4096x6 .f32) (x1 : FVec Ideal S3x128 .f32) (x2 : FVec Ideal S128 .f32)
    (h0 : ∀ i, ∃ r : ℝ, x0 i = (r : EReal)) (h1 : ∀ i, ∃ r : ℝ, x1 i = (r : EReal)) (r : Fin 4096) :
    hiddenR x0 x1 x2 r = hiddenK x0 x1 x2 r := by
  funext j s
  choose f0 e0 using h0
  choose f1 e1 using h1
  unfold hiddenR hiddenK
  simp only [e0, e1]
  exact (preK_eq_preR _ _ _ _ _).symm

/-- The reference's colours are the kernel's. -/
theorem colours_eq (x0 : FVec Ideal S4096x6 .f32) (x1 : FVec Ideal S3x128 .f32) (x2 : FVec Ideal S128 .f32)
    (x3 : FVec Ideal S128x1 .f32) (x4 : FVec Ideal S1 .f32) (x5 : FVec Ideal S128x3 .f32) (x6 : FVec Ideal S3 .f32) (h0 : ∀ i, ∃ r : ℝ, x0 i = (r : EReal)) (h1 : ∀ i, ∃ r : ℝ, x1 i = (r : EReal)) :
    val_main_v77 (F := Ideal) x0 x1 x2 x3 x4 x5 x6 = fun i => colours x0 x1 x2 x3 x4 x5 x6 (i 0) (i 1) := by
  funext i
  obtain ⟨r, q, rfl⟩ : ∃ (r : Fin 4096) (q : Fin 3), i = ix2 r q := ⟨i 0, i 1, eq_ix2 i⟩
  rw [colours_apply, hidden_eq x0 x1 x2 h0 h1]
  rfl

/-- The reference's opacities are the kernel's. -/
theorem opacities_eq (x0 : FVec Ideal S4096x6 .f32) (x1 : FVec Ideal S3x128 .f32) (x2 : FVec Ideal S128 .f32)
    (x3 : FVec Ideal S128x1 .f32) (x4 : FVec Ideal S1 .f32) (h0 : ∀ i, ∃ r : ℝ, x0 i = (r : EReal)) (h1 : ∀ i, ∃ r : ℝ, x1 i = (r : EReal)) :
    val_main_v80 (F := Ideal) x0 x1 x2 x3 x4 = fun i => opacities x0 x1 x2 x3 x4 (i 0) := by
  funext i
  obtain ⟨r, rfl⟩ : ∃ r : Fin 4096, i = ix1 r := ⟨i 0, eq_ix1 i⟩
  rw [opacities_apply, hidden_eq x0 x1 x2 h0 h1]
  rfl

/-- The reference's distances are the kernel's. -/
theorem distances_eq (x0 : FVec Ideal S4096x6 .f32) (x1 : FVec Ideal S3x128 .f32) (x2 : FVec Ideal S128 .f32)
    (x3 : FVec Ideal S128x1 .f32) (x4 : FVec Ideal S1 .f32) (h0 : ∀ i, ∃ r : ℝ, x0 i = (r : EReal)) (h1 : ∀ i, ∃ r : ℝ, x1 i = (r : EReal)) :
    val_main_v87 (F := Ideal) x0 x1 x2 x3 x4 = fun i => distances x0 x1 x2 x3 x4 (i 0) := by
  funext i
  obtain ⟨r, rfl⟩ : ∃ r : Fin 4096, i = ix1 r := ⟨i 0, eq_ix1 i⟩
  rw [distances_apply, hidden_eq x0 x1 x2 h0 h1]
  rfl

end Cert.Equation

end
-- ==== Proof.lean ====
module

public import proofs.«01_k».proof.Defs
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_positions
public import proofs.«01_k».proof.Proof.KerArray
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference returns, its arguments end as they began, and every semaphore counter is zero. -/
theorem reference_frame : @Cert.quiescent_ReferenceIdeal Cert.ReferenceIdeal.Gen.facts := fun m g _ =>
  (θ_run _ _ _).mono (fun r h => ⟨fun c => (h c).2.2.2, sem_eq_zero_of_no_sems (by decide) r.2⟩) (Cert.ReferenceIdeal.Value.run m g)

/-- From equal arguments, the rays and first-layer weights finite, the kernel's three results are the reference's. -/
theorem equal_results :
    @Cert.algebraic_KernelIdeal_ReferenceIdeal_pre_finite_positions Cert.KernelIdeal.Gen.facts Cert.ReferenceIdeal.Gen.facts
      Cert.Pre_finite_positions.Gen.facts := by
  intro m g m' g' hp hm
  refine ⟨Cert.KernelIdeal.Block.rgb m, Cert.KernelIdeal.Block.opac m, Cert.KernelIdeal.Block.dist m,
    Cert.KernelIdeal.Block.run m g, (θ_run _ _ _).mono (fun r h c => ?_) (Cert.ReferenceIdeal.Rays.run m' g')⟩
  obtain ⟨r0, r1, r2, rest⟩ := h c
  obtain ⟨e0, e1, e2, e3, e4, e5, e6⟩ := hm c
  obtain ⟨f0, f1⟩ := Cert.Equation.finite_of_pre _ _ _ _ _ _ _ (hp c)
  refine ⟨r0.trans ?_, r1.trans ?_, r2.trans ?_, rest⟩
  · rw [e0, e1, e2, e3, e4, e5, e6]
    exact Cert.Equation.colours_eq _ _ _ _ _ _ _ f0 f1
  · rw [e0, e1, e2, e3, e4]
    exact Cert.Equation.opacities_eq _ _ _ _ _ f0 f1
  · rw [e0, e1, e2, e3, e4]
    exact Cert.Equation.distances_eq _ _ _ _ _ f0 f1

/-- Every claim. -/
theorem claim : Cert.Claim := ⟨Cert.Kernel.Gen.facts, Cert.KernelIdeal.Gen.facts, Cert.ReferenceIdeal.Gen.facts, Cert.Pre_finite_positions.Gen.facts,
  fun m ρ _ => Cert.Kernel.Gen.frame m ρ,
  fun m ρ _ => Cert.KernelIdeal.Gen.frame m ρ,
  fun m ρ _ => Cert.KernelIdeal.Gen.frame m ρ,
  reference_frame, fun m ρ _ => reference_frame m ρ trivial,
  ⟨IdealRules.named_const.statement Cert.KernelIdeal.κ "step" .f32 0x3CAAAAAB#32 _ rfl,
   IdealRules.named_const.statement Cert.KernelIdeal.κ "two_thirds" .f32 0x3F2AAAAB#32 _ rfl,
   IdealRules.named_const.statement Cert.KernelIdeal.κ "log_eps" .f32 0xC1B834F1#32 _ rfl⟩,
  equal_results⟩

end Cert.Proof

end
